-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 256, 8, 64]⟩ ⟨4, ![2, 512, 8, 64]⟩ (Layout.meshBlock [2, 4, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  h_S_ : 0 < S_.numel

variable [Facts]

def fn {F : FTy → Type} [FloatOps F] (main_arg0 : FVec F S2x256x8x64 .bf16) (main_arg1 : FVec F S2x256x8x64 .bf16) (main_arg2 : FVec F S2x256x8x64 .bf16) : IVec S_ 1 :=
  let main_v0 : FVec F S2x256x8x64 .bf16 := Host.absf main_arg0
  let main_cst : FVec F S_ .bf16 := constant S_ .bf16 0x7F80#16
  let main_v1 : FVec F S2x256x8x64 .bf16 := broadcastInDim S2x256x8x64 ![] bcast_S_S2x256x8x64 main_cst
  let main_v2 : IVec S2x256x8x64 1 := cmpf .olt main_v0 main_v1
  let main_c : IVec S_ 1 := constantI S_ 1 1#1
  let main_v3 : IVec S_ 1 := (fun x v => Host.reduce IntOp.andi x v reducesTo_S2x256x8x64_S_d0_1_2_3 h_S_) main_v2 main_c
  let main_v4 : FVec F S2x256x8x64 .bf16 := Host.absf main_arg1
  let main_cst_0 : FVec F S_ .bf16 := constant S_ .bf16 0x7F80#16
  let main_v5 : FVec F S2x256x8x64 .bf16 := broadcastInDim S2x256x8x64 ![] bcast_S_S2x256x8x64 main_cst_0
  let main_v6 : IVec S2x256x8x64 1 := cmpf .olt main_v4 main_v5
  let main_c_1 : IVec S_ 1 := constantI S_ 1 1#1
  let main_v7 : IVec S_ 1 := (fun x v => Host.reduce IntOp.andi x v reducesTo_S2x256x8x64_S_d0_1_2_3 h_S_) main_v6 main_c_1
  let main_v8 : IVec S_ 1 := andi main_v3 main_v7
  main_v8
-- ==== Pre_finite_qk_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .bf16) (main_arg1 : FVec F S2x512x8x64 .bf16) (main_arg2 : FVec F S2x512x8x64 .bf16) : IVec S_ 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .bf16 := Host.absf main_arg1
  let main_cst_0 : FVec F S_ .bf16 := constant S_ .bf16 0x7F80#16
  let main_v5 : FVec F S2x512x8x64 .bf16 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x256x8x64 : Shape := ⟨4, ![2, 256, 8, 64]⟩
abbrev S2x2x256x8x64 : Shape := ⟨5, ![2, 2, 256, 8, 64]⟩
abbrev S2 : Shape := ⟨1, ![2]⟩
abbrev S1x2x256x8x64 : Shape := ⟨5, ![1, 2, 256, 8, 64]⟩
abbrev S_ : Shape := ⟨0, ![]⟩
abbrev S1 : Shape := ⟨1, ![1]⟩
abbrev S512x512 : Shape := ⟨2, ![512, 512]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x256x1x64 : Shape := ⟨4, ![1, 256, 1, 64]⟩

abbrev nBuf : Space → Nat
  | .hbm => 4
  | .vmem => 6
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S2x256x8x64, .f32⟩
  | .local _ .vmem, ⟨0, _⟩ => ⟨S2x256x8x64, .bf16⟩
  | .local _ .vmem, ⟨1, _⟩ => ⟨S2x256x8x64, .bf16⟩
  | .local _ .vmem, ⟨2, _⟩ => ⟨S2x256x8x64, .bf16⟩
  | .local _ .vmem, ⟨3, _⟩ => ⟨S2x256x8x64, .f32⟩
  | .local _ .vmem, ⟨4, _⟩ => ⟨S2x2x256x8x64, .bf16⟩
  | .local _ .vmem, ⟨5, _⟩ => ⟨S2x2x256x8x64, .bf16⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_21 : BitVec 32 := 16#32
  let v21 : BitVec 32 := Scalar.muli v9 c16_i32_21
  let v22 : BitVec 32 := Scalar.addi c0_i32 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v23 : BitVec 32 := Scalar.muli v5 c4_i32_22
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v25 : BitVec 32 := Scalar.muli v8 c1_i32_23
  let v26 : BitVec 32 := Scalar.addi v24 v25
  v26.toNat
def k0_dev2 (d0 : Dev nD) : Nat :=
  let c0_i32_30 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_29 : BitVec 32 := 16#32
  let v27 : BitVec 32 := Scalar.muli v9 c16_i32_29
  let v28 : BitVec 32 := Scalar.addi c0_i32_30 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v29 : BitVec 32 := Scalar.muli v5 c4_i32_31
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v31 : BitVec 32 := Scalar.muli v8 c1_i32_32
  let v32 : BitVec 32 := Scalar.addi v30 v31
  v32.toNat
def k0_dev3 (d0 : Dev nD) : Nat :=
  let c0_i32_46 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_45 : BitVec 32 := 16#32
  let v41 : BitVec 32 := Scalar.muli v9 c16_i32_45
  let v42 : BitVec 32 := Scalar.addi c0_i32_46 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v43 : BitVec 32 := Scalar.muli v5 c4_i32_47
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v45 : BitVec 32 := Scalar.muli v8 c1_i32_48
  let v46 : BitVec 32 := Scalar.addi v44 v45
  v46.toNat
abbrev stage0_0 : Fin 1 → Memref sig .tc .vmem S2x256x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S2x512x8x64, .f32⟩
  | .hbm, ⟨4, _⟩ => ⟨S2x512x8x64, .f32⟩
  | .hbm, ⟨5, _⟩ => ⟨S2x512x8x64, .f32⟩
  | .hbm, ⟨6, _⟩ => ⟨S2x8x512x512, .f32⟩
  | .hbm, ⟨7, _⟩ => ⟨S_, .f32⟩
  | .hbm, ⟨8, _⟩ => ⟨S2x8x512x512, .f32⟩
  | .hbm, ⟨9, _⟩ => ⟨S2x8x512x512, .f32⟩
  | .hbm, ⟨10, _⟩ => ⟨S_, .f32⟩
  | .hbm, ⟨11, _⟩ => ⟨S2x8x512, .f32⟩
  | .hbm, ⟨12, _⟩ => ⟨S2x8x512x1, .f32⟩
  | .hbm, ⟨13, _⟩ => ⟨S2x8x512x512, .f32⟩
  | .hbm, ⟨14, _⟩ => ⟨S2x8x512x512, .f32⟩
  | .hbm, ⟨15, _⟩ => ⟨S2x8x512x512, .f32⟩
  | .hbm, ⟨16, _⟩ => ⟨S_, .f32⟩
  | .hbm, ⟨17, _⟩ => ⟨S2x8x512, .f32⟩
  | .hbm, ⟨18, _⟩ => ⟨S2x8x512x1, .f32⟩
  | .hbm, ⟨19, _⟩ => ⟨S2x8x512x512, .f32⟩
  | .hbm, ⟨20, _⟩ => ⟨S2x8x512x512, .f32⟩
  | .hbm, ⟨21, _⟩ => ⟨S2x8x64x512, .f32⟩
  | .hbm, ⟨22, _⟩ => ⟨S2x512x8x64, .f32⟩
  | _, _ => ⟨S2x512x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Exchange.lean ====
/-
# Attention with the keys exchanged between two devices — the exchange

Device `c` and its peer (the device at the other end of the mesh's first axis) hold the two halves of the
sequence. Each copies its own block of the keys into slot 0 of the key buffer and its block of the values into
slot 0 of the value buffer, tells the peer through the barrier semaphore that its slots 1 may be written, waits
for the peer's word, and then copies its two slots 0 into the peer's slots 1.

Five cells per device, each with one duty of one round:

* the barrier cell, paid by the peer's signal, one unit: hands over the PEER's slots 1 of both buffers, at any
  contents, and that the peer stands at the start of its two receive cells;
* the send cell of the keys, and that of the values, paid by the device's own copy: the half of slot 0 it lent
  comes back, still holding the device's block (the other half was read meanwhile);
* the receive cell of the keys, and that of the values, paid by the peer's copy: slot 1 comes back holding the
  peer's block.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

set_option maxRecDepth 16384

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's round state, its duties nameless (one per round), -/
abbrev UX : Type := URounds (GSem nD τ sig) Unit
/-- beside the staging's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The peer -/

/-- The device at the other end of the mesh's first axis. -/
def peer (c : Dev nD) : Dev nD := ⟨(c.val + 16) % 32, Nat.mod_lt _ (by decide)⟩

theorem peer_peer (c : Dev nD) : peer (peer c) = c := by revert c; decide
/-- Exchanging the two ends of the first axis. -/
def flip : Dev nD ≃ Dev nD := ⟨peer, peer, peer_peer, peer_peer⟩

theorem peer_closed : ∀ c : Dev nD, (4 * ((c.val / 4) % 4) + (c.val % 4) + 16) - 16 * (c.val / 16) = (peer c).val := by decide
/-- The device the signal and the two copies name is the peer. -/
theorem dev1_eq (c : Dev nD) : (⟨k0_dev1 c, k0_dev1_lt c⟩ : Dev nD) = peer c := Fin.ext ((k0_dev1_eq c).trans (peer_closed c))
theorem dev2_eq (c : Dev nD) : (⟨k0_dev2 c, k0_dev2_lt c⟩ : Dev nD) = peer c := Fin.ext ((k0_dev2_eq c).trans (peer_closed c))
theorem dev3_eq (c : Dev nD) : (⟨k0_dev3 c, k0_dev3_lt c⟩ : Dev nD) = peer c := Fin.ext ((k0_dev3_eq c).trans (peer_closed c))

/-! ## The buffers' slots and the cells -/

abbrev qM : Memref sig .tc .vmem S2x256x8x64 .bf16 := Memref.whole cc0_stg0_0
abbrev kM : Memref sig .tc .vmem S2x256x8x64 .bf16 := Memref.whole cc0_stg1_0
abbrev vM : Memref sig .tc .vmem S2x256x8x64 .bf16 := Memref.whole cc0_stg2_0
abbrev oM : Memref sig .tc .vmem S2x256x8x64 .f32 := Memref.whole cc0_stg3_0
/-- The two-slot buffer of the keys and that of the values. -/
abbrev kB : Memref sig .tc .vmem S2x2x256x8x64 .bf16 := Memref.whole cc0_scratch0
abbrev vB : Memref sig .tc .vmem S2x2x256x8x64 .bf16 := Memref.whole cc0_scratch1

/-- The rectangles of the two slots. -/
abbrev slot0 : Rect S2x2x256x8x64 := Rect.unit (s := S2x2x256x8x64) ![0, 0, 0, 0, 0] S1x2x256x8x64.size inb_S2x2x256x8x64_S1x2x256x8x64_0_0_0_0_0
abbrev slot1 : Rect S2x2x256x8x64 := Rect.unit (s := S2x2x256x8x64) ![1, 0, 0, 0, 0] S1x2x256x8x64.size inb_S2x2x256x8x64_S1x2x256x8x64_1_0_0_0_0
/-- A buffer's slots as the copies name them. -/
abbrev low (B : Memref sig .tc .vmem S2x2x256x8x64 .bf16) : Memref sig .tc .vmem S2x256x8x64 .bf16 :=
  (B.slice slot0 (fun _ => rfl)).squeeze S2x256x8x64 squeezes_S1x2x256x8x64_S2x256x8x64
abbrev high (B : Memref sig .tc .vmem S2x2x256x8x64 .bf16) : Memref sig .tc .vmem S2x256x8x64 .bf16 :=
  (B.slice slot1 (fun _ => rfl)).squeeze S2x256x8x64 squeezes_S1x2x256x8x64_S2x256x8x64

/-- The barrier semaphore (not scoped to the launch), the send and receive semaphores (scoped scratch). -/
abbrev barS : Sem sig := (SemArray.scalar (sig.barrier 0 rfl) : Sems sig S_).sem
abbrev sendK : DmaSem sig := ((cc0_scratch2.slice (Rect.unit (s := S2) ![0] S1.size inb_S2_S1_0)).squeeze S_ squeezes_S1_S_).sem
abbrev sendV : DmaSem sig := ((cc0_scratch2.slice (Rect.unit (s := S2) ![1] S1.size inb_S2_S1_1)).squeeze S_ squeezes_S1_S_).sem
abbrev recvK : DmaSem sig := ((cc0_scratch3.slice (Rect.unit (s := S2) ![0] S1.size inb_S2_S1_0)).squeeze S_ squeezes_S1_S_).sem
abbrev recvV : DmaSem sig := ((cc0_scratch3.slice (Rect.unit (s := S2) ![1] S1.size inb_S2_S1_1)).squeeze S_ squeezes_S1_S_).sem

/-- The five semaphores of the exchange: barrier, send keys, send values, receive keys, receive values; -/
abbrev xsem : Fin 5 → SemLoc sig := fun | 0 => .reg barS | 1 => .dma sendK | 2 => .dma sendV | 3 => .dma recvK | 4 => .dma recvV
/-- the cell of one on one device; -/
abbrev cell (k : Fin 5) (c : Dev nD) : GSem nD τ sig := ((c : Thread nD τ), xsem k)
/-- which of the five a semaphore is, if one. -/
def which (s : SemLoc sig) : Option (Fin 5) :=
  if s = xsem 0 then some 0 else if s = xsem 1 then some 1 else if s = xsem 2 then some 2
  else if s = xsem 3 then some 3 else if s = xsem 4 then some 4 else none

theorem which_xsem (k : Fin 5) : which (xsem k) = some k := by fin_cases k <;> decide
theorem xsem_injective : Function.Injective xsem := fun a b h =>
  Option.some.inj ((which_xsem a).symm.trans ((congrArg which h).trans (which_xsem b)))

/-- What a copy into slot 1 of the keys credits, and one into slot 1 of the values. -/
abbrev NK : ℕ := (high kB).view.dmaCredit
abbrev NV : ℕ := (high vB).view.dmaCredit
/-- What each of the five is paid: the barrier one unit, the others a copy's credit. -/
def amt : Fin 5 → ℕ := fun | 0 => 1 | 1 => NK | 2 => NV | 3 => NK | 4 => NV
theorem amt_pos (k : Fin 5) : 0 < amt k := by
  fin_cases k
  · exact Nat.one_pos
  all_goals exact View.dmaCredit_pos _ (by decide)

/-! ## What the device's blocks hold -/

/-- Device `c`'s blocks of the queries, the keys and the values, as staged. -/
def qBlk (c : Dev nD) : Vec F S2x256x8x64 .bf16 := (win0_0.blk t0_0).view.read (Elt F) (m ((c : Thread nD τ).loc main_arg0))
def kBlk (c : Dev nD) : Vec F S2x256x8x64 .bf16 := (win0_1.blk t0_0).view.read (Elt F) (m ((c : Thread nD τ).loc main_arg1))
def vBlk (c : Dev nD) : Vec F S2x256x8x64 .bf16 := (win0_2.blk t0_0).view.read (Elt F) (m ((c : Thread nD τ).loc main_arg2))

/-! ## The schedule -/

/-- What the one duty of each cell of device `c` hands over. -/
def pay (k : Fin 5) (c : Dev nD) : sProp 𝕄 := match k with
  | 0 => iprop((∃ X, owns (peer c : Thread nD τ) (high kB) fullShare X) ∗ (∃ X, owns (peer c : Thread nD τ) (high vB) fullShare X)
      ∗ reached EX (cell 3 (peer c)) 0 ∗ reached EX (cell 4 (peer c)) 0)
  | 1 => owns (c : Thread nD τ) (low kB) fullShare.left (kBlk m c)
  | 2 => owns (c : Thread nD τ) (low vB) fullShare.left (vBlk m c)
  | 3 => owns (c : Thread nD τ) (high kB) fullShare (kBlk m (peer c))
  | 4 => owns (c : Thread nD τ) (high vB) fullShare (vBlk m (peer c))

instance pay_storable (k : Fin 5) (c : Dev nD) : BI.Storable (upEmb : UEmb _ 𝕄) (pay m k c) := by
  unfold pay; fin_cases k <;> infer_instance

/-- One round, one duty in it, at the cells of the exchange and nowhere else. -/
def plan : Rounds.Schedule (GSem nD τ sig) Unit 𝕄 where
  duties g r := if r = 0 ∧ g.1.2 = .tc ∧ (which g.2).isSome then {()} else ∅
  unitless _ := False
  amount g _ _ := match which g.2 with | some k => amt k | none => 1
  payload g _ _ := match which g.2 with | some k => pay m k g.1.1 | none => iprop(emp)
  amount_pos g _ _ _ := by
    split
    · exact amt_pos _
    · exact Nat.one_pos

instance plan_storable (g : GSem nD τ sig) (r : ℕ) (d : Unit) : BI.Storable (upEmb : UEmb _ 𝕄) ((plan (F := F) m).payload g r d) := by
  show BI.Storable upEmb (match which g.2 with | some k => pay m k g.1.1 | none => iprop(emp))
  split <;> infer_instance

section Tables
variable (k : Fin 5) (c : Dev nD)

theorem plan_duties : (plan (F := F) m).duties (cell k c) 0 = {()} := by
  dsimp only [plan]; exact if_pos ⟨rfl, rfl, by rw [which_xsem]; rfl⟩
theorem plan_done (g : GSem nD τ sig) (r : ℕ) (hr : 1 ≤ r) : (plan (F := F) m).duties g r = ∅ := by
  dsimp only [plan]; exact if_neg fun h => by omega
theorem plan_amount (d : Unit) : (plan (F := F) m).amount (cell k c) 0 d = amt k := by
  dsimp only [plan]; rw [which_xsem]
theorem plan_payload (d : Unit) : (plan (F := F) m).payload (cell k c) 0 d = pay m k c := by
  dsimp only [plan]; rw [which_xsem]
theorem plan_expect : (plan (F := F) m).expect (cell k c) 0 = amt k := by
  unfold Schedule.expect Schedule.amountOf; rw [plan_duties, Finset.sum_singleton, plan_amount]
/-- A round not begun hands over its one duty's payload. -/
theorem plan_rest : bigSep ((plan (F := F) m).duties (cell k c) 0 \ ∅) (fun d => (plan (F := F) m).payload (cell k c) 0 d) = pay m k c := by
  rw [Finset.sdiff_empty, plan_duties, bigSep_singleton, plan_payload]
theorem plan_mem (d : Unit) : d ∈ (plan (F := F) m).duties (cell k c) 0 := by rw [plan_duties]; exact Finset.mem_singleton_self _

end Tables

/-! ## What each device owes at launch, and the levels -/

/-- After its signal a device owes the peer's two receive cells a copy's credit each, -/
def owedCopies (c : Dev nD) : CellTallies nD τ sig Unit := tallyAt (cell 4 (peer c)) () NV + tallyAt (cell 3 (peer c)) () NK
/-- before it the peer's barrier cell one unit as well. -/
def owedAll (c : Dev nD) : CellTallies nD τ sig Unit := owedCopies c + tallyAt (cell 0 (peer c)) () 1

def L (g : GSem nD τ sig) : Finset Unit := if g.1.2 = .tc then {()} else ∅
/-- Barrier cells at level 1, receive cells at 2, every other cell at 0. -/
def lv (g : GSem nD τ sig) (_ : Unit) : ℕ := match which g.2 with | some 0 => 1 | some 3 => 2 | some 4 => 2 | _ => 0

theorem L_of_ne (g : GSem nD τ sig) (h : g.1.2 ≠ .tc) : L g = ∅ := if_neg h
theorem L_cell (k : Fin 5) (c : Dev nD) (u : Unit) : u ∈ L (cell k c) := by unfold L; rw [if_pos rfl]; exact Finset.mem_singleton_self _

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem owedCopies_pos {c : Dev nD} {g : GSem nD τ sig} {u : Unit} (h : 0 < owedCopies c g u) : g = cell 3 (peer c) ∨ g = cell 4 (peer c) := by
  unfold owedCopies at h
  rw [Pi.add_apply, Finsupp.add_apply, Nat.add_pos_iff_pos_or_pos] at h
  rcases h with h | h
  · exact Or.inr (tally_pos h)
  · exact Or.inl (tally_pos h)

theorem owedAll_pos {c : Dev nD} {g : GSem nD τ sig} {u : Unit} (h : 0 < owedAll c g u) :
    g = cell 0 (peer c) ∨ g = cell 3 (peer c) ∨ g = cell 4 (peer c) := by
  unfold owedAll at h
  rw [Pi.add_apply, Finsupp.add_apply, Nat.add_pos_iff_pos_or_pos] at h
  rcases h with h | h
  · exact Or.inr (owedCopies_pos h)
  · exact Or.inl (tally_pos h)

theorem lv_cell (k : Fin 5) (c : Dev nD) (u : Unit) : lv (cell k c) u = match k with | 0 => 1 | 3 => 2 | 4 => 2 | _ => 0 := by
  unfold lv; rw [which_xsem]; fin_cases k <;> rfl

omit [FloatOps F] in
/-- A staging semaphore may be waited on whatever is owed: it lies below every cell owed. -/
theorem mayWait_stage (c : Dev nD) (q : DmaSem sig) (hq : which (.dma q) = none) (O : CellTallies nD τ sig Unit) (hO : O = owedAll c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; unfold L; rw [if_pos rfl]; exact Finset.mem_singleton_self _)
      (fun g u hg => by rcases owedAll_pos hg with rfl | rfl | rfl <;> exact L_cell _ _ _)
      (fun p hp => by rw [Finset.mem_singleton.mp hp]; dsimp only [lv]; rw [hq])
      (fun g u hg => by rcases owedAll_pos hg with rfl | rfl | rfl <;> rw [lv_cell] <;> decide)
  · rw [MayWait_zero]; iintro -; iempintro

omit [FloatOps F] in
/-- At its barrier a device owes the peer's receive cells only, which lie above. -/
theorem mayWait_bar (c : Dev nD) : (levAts L lv : sProp 𝕄) ⊢ MayWait (c : Thread nD τ) (xsem 0) () (owedCopies c) :=
  MayOwe.of_cut (L := L) (lev := lv) 1 (fun p hp => by rw [Finset.mem_singleton.mp hp]; exact L_cell 0 c ())
    (fun g u hg => by rcases owedCopies_pos hg with rfl | rfl <;> exact L_cell _ _ _)
    (fun p hp => by rw [Finset.mem_singleton.mp hp]; exact le_of_eq (lv_cell 0 c ()))
    (fun g u hg => by rcases owedCopies_pos hg with rfl | rfl <;> rw [lv_cell] <;> decide)

/-! ## The ghost state a device starts from -/

/-- The invariants of every cell device `c` touches: its own five, and the peer's barrier and receive cells. -/
def invs (K : Dev nD × Fin 5 → ℕ) (c : Dev nD) : sProp 𝕄 :=
  iprop(cellInv EX (plan m) (K (c, 0)) (cell 0 c) ∗ cellInv EX (plan m) (K (c, 1)) (cell 1 c) ∗ cellInv EX (plan m) (K (c, 2)) (cell 2 c)
    ∗ cellInv EX (plan m) (K (c, 3)) (cell 3 c) ∗ cellInv EX (plan m) (K (c, 4)) (cell 4 c)
    ∗ cellInv EX (plan m) (K (peer c, 0)) (cell 0 (peer c)) ∗ cellInv EX (plan m) (K (peer c, 3)) (cell 3 (peer c))
    ∗ cellInv EX (plan m) (K (peer c, 4)) (cell 4 (peer c)))

instance invs_persistent (K : Dev nD × Fin 5 → ℕ) (c : Dev nD) : BI.Persistent (invs m K c) := by unfold invs; infer_instance

/-- Its positions at its own five cells, -/
def places (c : Dev nD) : sProp 𝕄 :=
  iprop(atPos EX (cell 0 c) 0 ∅ 0 ∗ atPos EX (cell 1 c) 0 ∅ 0 ∗ atPos EX (cell 2 c) 0 ∅ 0 ∗ atPos EX (cell 3 c) 0 ∅ 0 ∗ atPos EX (cell 4 c) 0 ∅ 0)
/-- the marks of the cells it pays and of its own receive cells, -/
def marks (c : Dev nD) : sProp 𝕄 :=
  iprop(reached EX (cell 0 (peer c)) 0 ∗ reached EX (cell 1 c) 0 ∗ reached EX (cell 2 c) 0 ∗ reached EX (cell 3 c) 0 ∗ reached EX (cell 4 c) 0)
/-- and the tokens of the duties it pays: the peer's barrier and receive cells, its own send cells. -/
def tokens (c : Dev nD) : sProp 𝕄 :=
  iprop(dutyTok EX (cell 0 (peer c)) 0 () ∗ dutyTok EX (cell 1 c) 0 () ∗ dutyTok EX (cell 2 c) 0 () ∗ dutyTok EX (cell 3 (peer c)) 0 () ∗ dutyTok EX (cell 4 (peer c)) 0 ())

instance marks_persistent (c : Dev nD) : BI.Persistent (marks (F := F) c) := by unfold marks; infer_instance

def ghost (K : Dev nD × Fin 5 → ℕ) (c : Dev nD) : sProp 𝕄 := iprop(invs m K c ∗ places c ∗ marks c ∗ tokens c)

/-- The credit dealt to its barrier and receive cells. -/
def credits (c : Dev nD) : sProp 𝕄 := iprop(cred (tallyAt (cell 0 c) () 1) ∗ cred (tallyAt (cell 3 c) () NK) ∗ cred (tallyAt (cell 4 c) () NV))

def start (c : Dev nD) : sProp 𝕄 := iprop((∃ K, ghost m K c) ∗ credits c ∗ levAts L lv)

end Cert.KernelIdeal.Attn

end
-- ==== Proof.Slots.lean ====
/-
# Attention with the keys exchanged between two devices — the two slots of a buffer

The buffer of the keys and that of the values have two slots. The copies name a slot as a block of the input's
shape, the loads and stores as a rectangle with a leading axis of length one: the same elements, read in the
same order. A buffer is its two slots; a block stored into slot 0 is what the copy out of it reads and what a
later load of it finds.
-/
module

public import proofs.«01_k».proof.Proof.Exchange
public import Idealize.ShloMosaic.Lib.Pipeline.Value

@[expose] public section

set_option maxRecDepth 16384

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A block with a leading axis of length one, as a load of a slot returns it. -/
abbrev up (X : Vec F S2x256x8x64 .bf16) : Vec F S1x2x256x8x64 .bf16 := shapeCast S1x2x256x8x64 X shapeCasts_S2x256x8x64_S1x2x256x8x64

/-- What the kernel stores in slot 0 is the block read. -/
theorem pay1_up (X : Vec F S2x256x8x64 .bf16) : k0_pay1 X = up X := by unfold k0_pay1; rw [shapeCast_self]
theorem pay2_up (X : Vec F S2x256x8x64 .bf16) : k0_pay2 X = up X := by unfold k0_pay2; rw [shapeCast_self]

variable (B : Memref sig .tc .vmem S2x2x256x8x64 .bf16)

theorem mem_slot {k : ℕ} {inb} (i : S2x2x256x8x64.Idx) :
    i ∈ (Rect.unit (s := S2x2x256x8x64) ![k, 0, 0, 0, 0] S1x2x256x8x64.size inb).set ↔ (i 0).val = k := by
  rw [Rect.mem_set_unit]
  constructor
  · intro h
    have h0 : k ≤ (i 0).val ∧ (i 0).val < k + 1 := h 0
    omega
  · intro h a
    fin_cases a
    · exact ⟨le_of_eq h.symm, by show (i 0).val < k + 1; omega⟩
    · exact ⟨Nat.zero_le _, by show (i 1).val < 0 + 2; rw [Nat.zero_add]; exact (i 1).isLt⟩
    · exact ⟨Nat.zero_le _, by show (i 2).val < 0 + 256; rw [Nat.zero_add]; exact (i 2).isLt⟩
    · exact ⟨Nat.zero_le _, by show (i 3).val < 0 + 8; rw [Nat.zero_add]; exact (i 3).isLt⟩
    · exact ⟨Nat.zero_le _, by show (i 4).val < 0 + 64; rw [Nat.zero_add]; exact (i 4).isLt⟩

theorem slot_cover : slot0.set ∪ slot1.set = Finset.univ := by
  ext i
  rw [Finset.mem_union, mem_slot, mem_slot]
  have h0 : (i 0).val < 2 := (i 0).isLt
  exact ⟨fun _ => Finset.mem_univ _, fun _ => by omega⟩

theorem slot_disjoint : Disjoint slot0.set slot1.set := by
  rw [Finset.disjoint_left]
  intro i h0 h1
  rw [mem_slot] at h0 h1
  omega

theorem low_set : (low B).view.set = slot0.set.map B.view.emb :=
  ((B.slice slot0 (fun _ => rfl)).view.set_reshape squeezes_S1x2x256x8x64_S2x256x8x64.numel_eq).trans (View.set_slice _ _)
theorem high_set : (high B).view.set = slot1.set.map B.view.emb :=
  ((B.slice slot1 (fun _ => rfl)).view.set_reshape squeezes_S1x2x256x8x64_S2x256x8x64.numel_eq).trans (View.set_slice _ _)
theorem access0_set : (B.access slot0 : View sig .tc _ _ _).set = (low B).view.set := by rw [low_set]; exact View.set_slice _ _
theorem access1_set : (B.access slot1 : View sig .tc _ _ _).set = (high B).view.set := by rw [high_set]; exact View.set_slice _ _

theorem slots_disjoint : Disjoint (low B).view.set (high B).view.set := by
  rw [low_set, high_set]; exact (Finset.disjoint_map _).mpr slot_disjoint
theorem slots_cover : (low B).view.set ∪ (high B).view.set = B.view.set := by
  rw [low_set, high_set, ← Finset.map_union, slot_cover]; rfl

/-- A copy reads of a slot the block a load of it returns, without the leading axis; -/
theorem low_read (f : B.view.ty.Contents (Elt F)) :
    (low B).view.read (Elt F) f = shapeCast S2x256x8x64 ((B.access slot0).read (Elt F) f) shapeCasts_S1x2x256x8x64_S2x256x8x64 :=
  Memref.read_squeeze_slice B slot0 _ _ _ f
theorem high_read (f : B.view.ty.Contents (Elt F)) :
    (high B).view.read (Elt F) f = shapeCast S2x256x8x64 ((B.access slot1).read (Elt F) f) shapeCasts_S1x2x256x8x64_S2x256x8x64 :=
  Memref.read_squeeze_slice B slot1 _ _ _ f
/-- so the load is that block with the leading axis. -/
theorem access0_read (f : B.view.ty.Contents (Elt F)) : (B.access slot0).read (Elt F) f = up ((low B).view.read (Elt F) f) := by
  rw [low_read, up, shapeCast_shapeCast]
theorem access1_read (f : B.view.ty.Contents (Elt F)) : (B.access slot1).read (Elt F) f = up ((high B).view.read (Elt F) f) := by
  rw [high_read, up, shapeCast_shapeCast]

/-- The block stored into slot 0 is what the copy out of it reads. -/
theorem low_stored (f : B.view.ty.Contents (Elt F)) (X : Vec F S2x256x8x64 .bf16) :
    (low B).view.read (Elt F) ((B.access slot0).write (Elt F) f (up X) Finset.univ) = X := by
  rw [low_read, View.read_write_univ]
  exact shapeCast_shapeCast X _ _

section Assertions
variable (c : Dev nD)

/-- A buffer with a block stored into slot 0: the slot holds it, in two halves, and slot 1 holds something. -/
theorem slots_split (f : B.view.ty.Contents (Elt F)) (X : Vec F S2x256x8x64 .bf16) :
    (B.view.loc (c : Thread nD τ) ↦[B.view.set]{fullShare} ((B.access slot0).write (Elt F) f (up X) Finset.univ) : sProp 𝕄)
      ⊢ iprop((owns (c : Thread nD τ) (low B) fullShare.left X ∗ owns (c : Thread nD τ) (low B) fullShare.right X)
          ∗ ∃ Y, owns (c : Thread nD τ) (high B) fullShare Y) := by
  iintro H
  ihave H := (Entails.of_eq (congrArg (fun S => (B.view.loc (c : Thread nD τ) ↦[S]{fullShare} ((B.access slot0).write (Elt F) f (up X) Finset.univ) : sProp 𝕄)) (slots_cover B).symm)) $$ H
  ihave H := (pointsTo_union (ℓ := B.view.loc (c : Thread nD τ)) (slots_disjoint B)).1 $$ H
  icases H with ⟨H0, H1⟩
  ihave H0 := (pointsTo_share (PosShare.mem_left_op_right fullShare)).1 $$ H0
  icases H0 with ⟨Ha, Hb⟩
  isplitl [Ha Hb]
  · isplitl [Ha]
    · unfold owns; iexists ((B.access slot0).write (Elt F) f (up X) Finset.univ)
      isplitr; · ipureintro; exact low_stored B f X
      iexact Ha
    · unfold owns; iexists ((B.access slot0).write (Elt F) f (up X) Finset.univ)
      isplitr; · ipureintro; exact low_stored B f X
      iexact Hb
  · iexists ((high B).view.read (Elt F) ((B.access slot0).write (Elt F) f (up X) Finset.univ))
    iapply (owns_intro (c : Thread nD τ) (high B) fullShare ((B.access slot0).write (Elt F) f (up X) Finset.univ)) $$ H1

/-- The two halves of slot 0 and slot 1 are the whole buffer, at some contents. -/
theorem slots_join (X : Vec F S2x256x8x64 .bf16) (X' : Vec F S2x256x8x64 .bf16) (Y : Vec F S2x256x8x64 .bf16) :
    iprop(owns (c : Thread nD τ) (low B) fullShare.left X ∗ owns (c : Thread nD τ) (low B) fullShare.right X' ∗ owns (c : Thread nD τ) (high B) fullShare Y)
      ⊢ (iprop(∃ f, (B.view.loc (c : Thread nD τ) ↦[B.view.set]{fullShare} f)) : sProp 𝕄) := by
  unfold owns
  iintro ⟨⟨%f, -, Ha⟩, ⟨%g, -, Hb⟩, ⟨%k, -, H1⟩⟩
  ihave %hag := (pointsTo_agree (ℓ := B.view.loc (c : Thread nD τ)) (I := (low B).view.set) (J := (low B).view.set) (q₁ := fullShare.left) (q₂ := fullShare.right) (f := f) (g := g)) $$ [Ha Hb]
  · isplitl [Ha]; · iexact Ha
    iexact Hb
  ihave Hb := (Entails.of_eq (pointsTo_congr (f := g) (g := f) (fun i hi => ((hag i (Finset.mem_inter.mpr ⟨hi, hi⟩)).1).symm))) $$ Hb
  ihave H0 := (pointsTo_share (PosShare.mem_left_op_right fullShare)).2 $$ [Ha Hb]
  · isplitl [Ha]; · iexact Ha
    iexact Hb
  ihave H := (pointsTo_join (ℓ := B.view.loc (c : Thread nD τ)) (slots_disjoint B)) $$ [H0 H1]
  · isplitl [H0]; · iexact H0
    iexact H1
  rw [slots_cover]
  iexists _; iexact H

end Assertions

end Cert.KernelIdeal.Attn

end
-- ==== Proof.Output.lean ====
/-
# Attention with the keys exchanged between two devices — what a device's output holds

Head `h` of batch entry `b` is a block of 256 rows and 64 columns of each of the five operands laid out as
512 by 512: the scaled queries, the two blocks of keys and the two blocks of values. Its output is the weighted
sum of both blocks of values over the sum of both blocks' weights. The sixteen stores leave exactly these
blocks, whatever the output held before.
-/
module

public import proofs.«01_k».proof.Proof.Slots
public import Idealize.ShloMosaic.Lib.ValueIdxCore

@[expose] public section

set_option maxRecDepth 16384

noncomputable section

namespace Cert.KernelIdeal.Attn

open Cert.KernelIdeal Cert.KernelIdeal.Gen

open Idealize.ShloMosaic
open Idealize.ShloMosaic.TcCoe
open Idealize.ShloMosaic.ValueIdx

variable {F : FTy → Type} [FloatOps F]

/-- Where head `h` of batch entry `b` lies in a 512-by-512 operand. -/
theorem head_slices (b : Fin 2) (h : Fin 8) : S512x512.Slices ![256 * b.val, 64 * h.val] S256x64 := by
  revert b h; decide

/-- One head of an operand. -/
def headOf (b : Fin 2) (h : Fin 8) (x : FVec F S512x512 .bf16) : FVec F S256x64 .bf16 :=
  extractStridedSlice S256x64 ![256 * b.val, 64 * h.val] x (head_slices b h)

/-- The weights of one block of keys: the exponential of every query's product with every key. -/
def weights (q k : FVec F S256x64 .bf16) : FVec F S256x256 .f32 :=
  exp (matmul dot_S256x64_S256x64_S256x256_1_1_0_0_n_n none q k (constant S256x256 .f32 0x00000000#32))

/-- The sum of a block's weights, per query, -/
def total (p : FVec F S256x256 .f32) : FVec F S256x1 .f32 :=
  shapeCast S256x1 (multiReduction .add [1] S256 p 0x00000000#32 reduces_S256x256_S256 (.inl rfl) rfl) shapeCasts_S256_S256x1
/-- and the sum of its values by weight. -/
def mixed (p : FVec F S256x256 .f32) (v : FVec F S256x64 .bf16) : FVec F S256x64 .f32 :=
  matmul dot_S256x256_S256x64_S256x64_1_0_0_1_n_n none (truncf .bf16 p bitsLt_bf16_f32) v (constant S256x64 .f32 0x00000000#32)

/-- The output of one head from its queries, and the keys and values of the two blocks. -/
def attend (q k v k' v' : FVec F S256x64 .bf16) : FVec F S256x64 .f32 :=
  divf (addf (mixed (weights q k) v) (mixed (weights q k') v'))
    (broadcastTo S256x64 (addf (total (weights q k)) (total (weights q k'))) broadcasts_S256x1_S256x64)

section Out
variable (Q : Vec F S2x256x8x64 .bf16) (K0 V0 K1 V1 : Vec F S1x2x256x8x64 .bf16)

/-- Head `h` of batch entry `b` of a device's output, from its queries as read and from the two slots as loaded. -/
def headOut (b : Fin 2) (h : Fin 8) : FVec F S256x64 .f32 :=
  attend (headOf b h (k0_pay3 Q)) (headOf b h (k0_pay4 K0)) (headOf b h (k0_pay5 V0)) (headOf b h (k0_pay57 K1)) (headOf b h (k0_pay108 V1))

/-- A device's whole output. -/
def outVal : Vec F S2x256x8x64 .f32 := fun i => headOut Q K0 V0 K1 V1 (i 0) (i 2) (ix2 (i 1) (i 3))

/-- The block of one head as stored. -/
def stored (b : Fin 2) (h : Fin 8) : Vec F S1x256x1x64 .f32 := shapeCast S1x256x1x64 (headOut Q K0 V0 K1 V1 b h) shapeCasts_S256x64_S1x256x1x64

/-! The sixteen stored blocks, as the kernel computes them. -/

theorem stored_0_0 : k0_pay109 (k0_pay7 Q K0) (k0_pay8 Q K0 V0) (k0_pay59 (k0_pay3 Q) K1) (k0_pay60 (k0_pay3 Q) K1) V1
    = stored Q K0 V0 K1 V1 0 0 := rfl
theorem stored_0_1 : k0_pay110 (k0_pay10 Q K0) (k0_pay11 Q K0 V0) (k0_pay62 (k0_pay3 Q) K1) (k0_pay63 (k0_pay3 Q) K1) V1
    = stored Q K0 V0 K1 V1 0 1 := rfl
theorem stored_0_2 : k0_pay112 (k0_pay111 (k0_pay14 (k0_pay12 Q K0)) (k0_pay15 (k0_pay5 V0) (k0_pay12 Q K0)) (k0_pay65 (k0_pay3 Q) K1) (k0_pay66 (k0_pay3 Q) K1) V1)
    = stored Q K0 V0 K1 V1 0 2 := rfl
theorem stored_0_3 : k0_pay113 (k0_pay17 (k0_pay3 Q) (k0_pay4 K0)) (k0_pay18 (k0_pay3 Q) (k0_pay4 K0) (k0_pay5 V0)) (k0_pay68 (k0_pay3 Q) K1) (k0_pay69 (k0_pay3 Q) K1) (k0_pay108 V1)
    = stored Q K0 V0 K1 V1 0 3 := rfl
theorem stored_0_4 : k0_pay114 (k0_pay20 (k0_pay3 Q) (k0_pay4 K0)) (k0_pay21 (k0_pay3 Q) (k0_pay4 K0) (k0_pay5 V0)) (k0_pay73 (k0_pay70 (k0_pay3 Q)) (k0_pay71 K1) (constant S256x256 .f32 0x00000000#32)) (k0_pay74 (k0_pay70 (k0_pay3 Q)) (k0_pay71 K1) (constant S256x256 .f32 0x00000000#32)) (k0_pay108 V1)
    = stored Q K0 V0 K1 V1 0 4 := rfl
theorem stored_0_5 : k0_pay115 (k0_pay23 (k0_pay3 Q) (k0_pay4 K0)) (k0_pay24 (k0_pay3 Q) (k0_pay4 K0) (k0_pay5 V0)) (k0_pay76 (k0_pay3 Q) (k0_pay57 K1)) (k0_pay77 (k0_pay3 Q) (k0_pay57 K1)) (k0_pay108 V1)
    = stored Q K0 V0 K1 V1 0 5 := rfl
theorem stored_0_6 : k0_pay117 (k0_pay116 (k0_pay26 (k0_pay3 Q) (k0_pay4 K0)) (k0_pay27 (k0_pay3 Q) (k0_pay4 K0) (k0_pay5 V0)) (k0_pay79 (k0_pay3 Q) (k0_pay57 K1)) (k0_pay80 (k0_pay3 Q) (k0_pay57 K1)) (k0_pay108 V1))
    = stored Q K0 V0 K1 V1 0 6 := rfl
theorem stored_0_7 : k0_pay118 (k0_pay30 (k0_pay28 (k0_pay3 Q) (k0_pay4 K0))) (k0_pay31 (k0_pay5 V0) (k0_pay28 (k0_pay3 Q) (k0_pay4 K0))) (k0_pay82 (k0_pay3 Q) (k0_pay57 K1)) (k0_pay83 (k0_pay3 Q) (k0_pay57 K1)) (k0_pay108 V1)
    = stored Q K0 V0 K1 V1 0 7 := rfl
theorem stored_1_0 : k0_pay119 (k0_pay33 (k0_pay3 Q) (k0_pay4 K0)) (k0_pay34 (k0_pay3 Q) (k0_pay4 K0) (k0_pay5 V0)) (k0_pay85 (k0_pay3 Q) (k0_pay57 K1)) (k0_pay86 (k0_pay3 Q) (k0_pay57 K1)) (k0_pay108 V1)
    = stored Q K0 V0 K1 V1 1 0 := rfl
theorem stored_1_1 : k0_pay120 (k0_pay36 (k0_pay3 Q) (k0_pay4 K0)) (k0_pay37 (k0_pay3 Q) (k0_pay4 K0) (k0_pay5 V0)) (k0_pay88 (k0_pay3 Q) (k0_pay57 K1)) (k0_pay89 (k0_pay3 Q) (k0_pay57 K1)) (k0_pay108 V1)
    = stored Q K0 V0 K1 V1 1 1 := rfl
theorem stored_1_2 : k0_pay122 (k0_pay121 (k0_pay39 (k0_pay3 Q) (k0_pay4 K0)) (k0_pay40 (k0_pay3 Q) (k0_pay4 K0) (k0_pay5 V0)) (k0_pay91 (k0_pay3 Q) (k0_pay57 K1)) (k0_pay92 (k0_pay3 Q) (k0_pay57 K1)) (k0_pay108 V1))
    = stored Q K0 V0 K1 V1 1 2 := rfl
theorem stored_1_3 : k0_pay123 (k0_pay42 (k0_pay3 Q) (k0_pay4 K0)) (k0_pay43 (k0_pay3 Q) (k0_pay4 K0) (k0_pay5 V0)) (k0_pay94 (k0_pay3 Q) (k0_pay57 K1)) (k0_pay95 (k0_pay3 Q) (k0_pay57 K1)) (k0_pay108 V1)
    = stored Q K0 V0 K1 V1 1 3 := rfl
theorem stored_1_4 : k0_pay124 (k0_pay46 (k0_pay44 (k0_pay3 Q) (k0_pay4 K0))) (k0_pay47 (k0_pay5 V0) (k0_pay44 (k0_pay3 Q) (k0_pay4 K0))) (k0_pay97 (k0_pay3 Q) (k0_pay57 K1)) (k0_pay98 (k0_pay3 Q) (k0_pay57 K1)) (k0_pay108 V1)
    = stored Q K0 V0 K1 V1 1 4 := rfl
theorem stored_1_5 : k0_pay125 (k0_pay49 (k0_pay3 Q) (k0_pay4 K0)) (k0_pay50 (k0_pay3 Q) (k0_pay4 K0) (k0_pay5 V0)) (k0_pay100 (k0_pay3 Q) (k0_pay57 K1)) (k0_pay101 (k0_pay3 Q) (k0_pay57 K1)) (k0_pay108 V1)
    = stored Q K0 V0 K1 V1 1 5 := rfl
theorem stored_1_6 : k0_pay127 (k0_pay126 (k0_pay52 (k0_pay3 Q) (k0_pay4 K0)) (k0_pay53 (k0_pay3 Q) (k0_pay4 K0) (k0_pay5 V0)) (k0_pay103 (k0_pay3 Q) (k0_pay57 K1)) (k0_pay104 (k0_pay3 Q) (k0_pay57 K1)) (k0_pay108 V1))
    = stored Q K0 V0 K1 V1 1 6 := rfl
theorem stored_1_7 : k0_pay128 (k0_pay55 (k0_pay3 Q) (k0_pay4 K0)) (k0_pay56 (k0_pay3 Q) (k0_pay4 K0) (k0_pay5 V0)) (k0_pay106 (k0_pay3 Q) (k0_pay57 K1)) (k0_pay107 (k0_pay3 Q) (k0_pay57 K1)) (k0_pay108 V1)
    = stored Q K0 V0 K1 V1 1 7 := rfl

end Out

/-! ## One store -/

/-- The rectangle of one head in the output. -/
theorem mem_head {b h : ℕ} {inb} (i : S2x256x8x64.Idx) :
    i ∈ (Rect.unit (s := S2x256x8x64) ![b, 0, h, 0] S1x256x1x64.size inb).set ↔ (i 0).val = b ∧ (i 2).val = h := by
  rw [Rect.mem_set_unit]
  constructor
  · intro H
    have h0 : b ≤ (i 0).val ∧ (i 0).val < b + 1 := H 0
    have h2 : h ≤ (i 2).val ∧ (i 2).val < h + 1 := H 2
    omega
  · rintro ⟨hb, hh⟩ a
    fin_cases a
    · exact ⟨le_of_eq hb.symm, by show (i 0).val < b + 1; omega⟩
    · exact ⟨Nat.zero_le _, by show (i 1).val < 0 + 256; rw [Nat.zero_add]; exact (i 1).isLt⟩
    · exact ⟨le_of_eq hh.symm, by show (i 2).val < h + 1; omega⟩
    · exact ⟨Nat.zero_le _, by show (i 3).val < 0 + 64; rw [Nat.zero_add]; exact (i 3).isLt⟩

/-- A store of one head's block leaves it there and nothing else changed. -/
theorem store_head {b h : ℕ} {inb} (f : Vec F S2x256x8x64 .f32) (w : Vec F S1x256x1x64 .f32) (i : S2x256x8x64.Idx) :
    (oM.access (Rect.unit (s := S2x256x8x64) ![b, 0, h, 0] S1x256x1x64.size inb)).write (Elt F) f w Finset.univ i
      = if (i 0).val = b ∧ (i 2).val = h then w (ix4 0 (i 1) 0 (i 3)) else f i := by
  by_cases H : (i 0).val = b ∧ (i 2).val = h
  · rw [if_pos H]
    have e : (oM.access (Rect.unit (s := S2x256x8x64) ![b, 0, h, 0] S1x256x1x64.size inb)).emb (ix4 0 (i 1) 0 (i 3)) = i := by
      funext a
      apply Fin.ext
      fin_cases a
      · show b + 1 * 0 = (i 0).val; omega
      · show 0 + 1 * (i 1).val = (i 1).val; omega
      · show h + 1 * 0 = (i 2).val; omega
      · show 0 + 1 * (i 3).val = (i 3).val; omega
    conv_lhs => rw [← e]
    rw [View.write_emb_of_mem _ _ (Finset.mem_univ _)]; rfl
  · rw [if_neg H]
    refine View.write_of_not_mem _ _ _ fun hm => H ?_
    have hs : i ∈ (oM.access (Rect.unit (s := S2x256x8x64) ![b, 0, h, 0] S1x256x1x64.size inb)).set := hm
    rw [show (oM.access (Rect.unit (s := S2x256x8x64) ![b, 0, h, 0] S1x256x1x64.size inb)).set = _ from View.set_slice_whole _ _] at hs
    exact (mem_head i).mp hs

section Out
variable (Q : Vec F S2x256x8x64 .bf16) (K0 V0 K1 V1 : Vec F S1x2x256x8x64 .bf16)

/-- The stored block of a head holds the output there. -/
theorem stored_out (b : Fin 2) (h : Fin 8) (i : S2x256x8x64.Idx) (H : (i 0).val = b.val ∧ (i 2).val = h.val) :
    stored Q K0 V0 K1 V1 b h (ix4 0 (i 1) 0 (i 3)) = outVal Q K0 V0 K1 V1 i := by
  have hb : i 0 = b := Fin.ext H.1
  have hh : i 2 = h := Fin.ext H.2
  unfold outVal
  rw [hb, hh]
  unfold stored
  refine shapeCast_apply _ _ _ _ ?_
  rw [Shape.rowMajor_val_two, Shape.rowMajor_val_four]
  show (i 1).val * 64 + (i 3).val = ((0 * 256 + (i 1).val) * 1 + 0) * 64 + (i 3).val
  omega

/-- Output contents that agree with the device's output on the heads already stored. -/
def upTo (n : ℕ) (f : Vec F S2x256x8x64 .f32) : Prop := ∀ i : S2x256x8x64.Idx, 8 * (i 0).val + (i 2).val < n → f i = outVal Q K0 V0 K1 V1 i

theorem upTo_zero (f : Vec F S2x256x8x64 .f32) : upTo Q K0 V0 K1 V1 0 f := fun i h => absurd h (Nat.not_lt_zero _)

/-- The next head's store adds that head. -/
theorem upTo_store {n : ℕ} (b : Fin 2) (h : Fin 8) {b' h' : ℕ} {inb} (hb : b' = b.val) (hh : h' = h.val) (hn : n = 8 * b.val + h.val) {f : Vec F S2x256x8x64 .f32}
    (hf : upTo Q K0 V0 K1 V1 n f) :
    upTo Q K0 V0 K1 V1 (n + 1) ((oM.access (Rect.unit (s := S2x256x8x64) ![b', 0, h', 0] S1x256x1x64.size inb)).write (Elt F) f (stored Q K0 V0 K1 V1 b h) Finset.univ) := by
  subst hb hh
  intro i hi
  rw [store_head]
  by_cases H : (i 0).val = b.val ∧ (i 2).val = h.val
  · rw [if_pos H]; exact stored_out Q K0 V0 K1 V1 b h i H
  · rw [if_neg H]
    refine hf i ?_
    have h2 : (i 2).val < 8 := (i 2).isLt
    have h3 := h.isLt
    omega

/-- All sixteen stored, the output is the device's. -/
theorem upTo_all {f : Vec F S2x256x8x64 .f32} (hf : upTo Q K0 V0 K1 V1 16 f) : f = outVal Q K0 V0 K1 V1 := by
  funext i
  refine hf i ?_
  have h0 : (i 0).val < 2 := (i 0).isLt
  have h2 : (i 2).val < 8 := (i 2).isLt
  omega

end Out

end Cert.KernelIdeal.Attn

end
-- ==== Proof.Run.lean ====
/-
# Attention with the keys exchanged between two devices — one device's run

The kernel's body on one device, from its share of the exchange's ghost state and its staged blocks to the output
block written: the signal, the two copies, the waits and the loads and stores in program order.
-/
module

public import proofs.«01_k».proof.Proof.Output
public import proofs.«01_k».proof.Proof.Gen.KernelIdeal.Points

@[expose] public section

set_option maxRecDepth 16384

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What device `c` writes: attention of its queries over its own and its peer's keys and values. -/
def outAt (c : Dev nD) : Vec F S2x256x8x64 .f32 :=
  outVal (qBlk m c) (up (kBlk m c)) (up (vBlk m c)) (up (kBlk m (peer c))) (up (vBlk m (peer c)))

/-- A buffer of one device, at some contents. -/
def someAt (c : Dev nD) (B : Memref sig .tc .vmem S2x2x256x8x64 .bf16) : sProp 𝕄 :=
  iprop(∃ f, (B.view.loc (c : Thread nD τ) ↦[B.view.set]{fullShare} f))

/-- What the body starts from, -/
def before (c : Dev nD) : sProp 𝕄 := iprop(start m c ∗ someAt c kB ∗ someAt c vB)
/-- and what it leaves: the two buffers, and the five cells' counters at zero. -/
def done (c : Dev nD) : sProp 𝕄 :=
  iprop(someAt c kB ∗ someAt c vB ∗ semVal (cell 0 c) 0 ∗ semVal (cell 1 c) 0 ∗ semVal (cell 2 c) 0 ∗ semVal (cell 3 c) 0 ∗ semVal (cell 4 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qBlk m c
    | ⟨1, _⟩ => kBlk m c
    | ⟨2, _⟩ => vBlk m c
    | ⟨3, _⟩ => outAt m c
  Φ t := match t with
    | ⟨0, _⟩ => before m c
    | ⟨_ + 1, _⟩ => done c
  q _ := fullShare
  owed t := match t with
    | ⟨0, _⟩ => owedAll c
    | ⟨_ + 1, _⟩ => 0

abbrev 𝒱₀ : Variants := Variants.none

omit [FloatOps F] in
theorem zero4 : (![0, 0, 0, 0] : Fin 4 → Nat) = fun _ => 0 := funext fun a => by fin_cases a <;> rfl

omit [FloatOps F] in
/-- A staged block read whole. -/
theorem read_whole_q (f : Vec F S2x256x8x64 .bf16) : (qM : Memref sig .tc .vmem S2x256x8x64 .bf16).view.readAt (Elt F)
    (Rect.unit (s := S2x256x8x64) ![0, 0, 0, 0] S2x256x8x64.size inb_S2x256x8x64_S2x256x8x64_0_0_0_0).toLoadRect f = f :=
  Memref.readAt_unit_zero (Elt F) cc0_stg0_0 zero4 _ f
omit [FloatOps F] in
theorem read_whole_k (f : Vec F S2x256x8x64 .bf16) : (kM : Memref sig .tc .vmem S2x256x8x64 .bf16).view.readAt (Elt F)
    (Rect.unit (s := S2x256x8x64) ![0, 0, 0, 0] S2x256x8x64.size inb_S2x256x8x64_S2x256x8x64_0_0_0_0).toLoadRect f = f :=
  Memref.readAt_unit_zero (Elt F) cc0_stg1_0 zero4 _ f
omit [FloatOps F] in
theorem read_whole_v (f : Vec F S2x256x8x64 .bf16) : (vM : Memref sig .tc .vmem S2x256x8x64 .bf16).view.readAt (Elt F)
    (Rect.unit (s := S2x256x8x64) ![0, 0, 0, 0] S2x256x8x64.size inb_S2x256x8x64_S2x256x8x64_0_0_0_0).toLoadRect f = f :=
  Memref.readAt_unit_zero (Elt F) cc0_stg2_0 zero4 _ f

/-! ## The steps of the body -/

section Steps
variable (B : Memref sig .tc .vmem S2x2x256x8x64 .bf16) (c : Dev nD)

/-- A load of slot 0 under any share of it, -/
theorem wp_load_low {q : PosShare TreeShare} {X : Vec F S2x256x8x64 .bf16} {hl : B.view.LoadsAt slot0.toLoadRect}
    {α : Type} {Q : α → sProp 𝕄} {k : Vec F S1x2x256x8x64 .bf16 → Prog (TpuEff nD τ sig (Elt F) Λ₀ .tc) α} :
    owns (c : Thread nD τ) (low B) q X
      ⊢ iprop((owns (c : Thread nD τ) (low B) q X -∗ wp frame (wpE (defs₀ (F := F)) 𝒱₀ (c : Thread nD τ) none) Set.univ (k (up X)) Q)
          -∗ wp frame (wpE (defs₀ (F := F)) 𝒱₀ (c : Thread nD τ) none) Set.univ (.op (.load B slot0.toLoadRect hl) k) Q) := by
  unfold owns
  iintro ⟨%f, %hf, H⟩
  iintro Hk
  iapply (wp_load_rect 𝒱₀ (c : Thread nD τ) none Set.univ (m := B) (r := slot0) (le_of_eq (access0_set B))) $$ H
  iintro H
  rw [access0_read, hf]
  iapply Hk
  iexists f
  isplitr; · ipureintro; exact hf
  iexact H

/-- and one of slot 1. -/
theorem wp_load_high {q : PosShare TreeShare} {X : Vec F S2x256x8x64 .bf16} {hl : B.view.LoadsAt slot1.toLoadRect}
    {α : Type} {Q : α → sProp 𝕄} {k : Vec F S1x2x256x8x64 .bf16 → Prog (TpuEff nD τ sig (Elt F) Λ₀ .tc) α} :
    owns (c : Thread nD τ) (high B) q X
      ⊢ iprop((owns (c : Thread nD τ) (high B) q X -∗ wp frame (wpE (defs₀ (F := F)) 𝒱₀ (c : Thread nD τ) none) Set.univ (k (up X)) Q)
          -∗ wp frame (wpE (defs₀ (F := F)) 𝒱₀ (c : Thread nD τ) none) Set.univ (.op (.load B slot1.toLoadRect hl) k) Q) := by
  unfold owns
  iintro ⟨%f, %hf, H⟩
  iintro Hk
  iapply (wp_load_rect 𝒱₀ (c : Thread nD τ) none Set.univ (m := B) (r := slot1) (le_of_eq (access1_set B))) $$ H
  iintro H
  rw [access1_read, hf]
  iapply Hk
  iexists f
  isplitr; · ipureintro; exact hf
  iexact H

/-- The copy of slot 0 into the peer's slot 1: the half lent goes to the send cell, the peer's slot with the block in
    it to the peer's receive cell. -/
theorem wp_copy (K : Dev nD × Fin 5 → ℕ) (i j : Fin 5) (n : Dev nD) (hn : n = peer c) (X : Vec F S2x256x8x64 .bf16)
    (hi : pay m i c = owns (c : Thread nD τ) (low B) fullShare.left X)
    (hj : pay m j (peer c) = owns (peer c : Thread nD τ) (high B) fullShare X)
    {hsc : (high B : Memref sig (Dev.tc n : Thread nD τ).2.kind .vmem S2x256x8x64 .bf16).view.ref.isScScratch = false}
    {hsrc : (low B).view.WordExact} {hdst : (high B).view.WordExact}
    {hsem : DmaTarget.Typed .vmem (xsem j) (.remote (Dev.tc n : Thread nD τ) (high B) (xsem i) hsc)}
    (hN : (high B).view.amount (xsem j) = amt j) (hij : amt i = amt j)
    {α : Type} {Q : α → sProp 𝕄} {k : PUnit → Prog (TpuEff nD τ sig (Elt F) Λ₀ .tc) α}
    {O₀ : CellTallies nD τ sig Unit} (O : CellTallies nD τ sig Unit) (hO : O₀ = O + tallyAt (cell j (peer c)) () (amt j)) (W : Waits sig Unit) :
    iprop(cellInv EX (plan m) (K (c, i)) (cell i c) ∗ cellInv EX (plan m) (K (peer c, j)) (cell j (peer c))
        ∗ owns (c : Thread nD τ) (low B) fullShare.left X ∗ (∃ Y, owns (peer c : Thread nD τ) (high B) fullShare Y)
        ∗ owes (c : Thread nD τ) O₀ W
        ∗ dutyTok EX (cell i c) 0 () ∗ reached EX (cell i c) 0
        ∗ dutyTok EX (cell j (peer c)) 0 () ∗ reached EX (cell j (peer c)) 0)
      ⊢ iprop(((cred (tallyAt (cell i c) () (amt j)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (low B) (.remote (Dev.tc n : Thread nD τ) (high B) (xsem i) hsc) (xsem j) hsrc hdst hsem) k) Q) := by
  subst hn
  iintro ⟨HI, HJ, Hs, ⟨%Y, Hd⟩, HO, Ht, Hr, Ht', Hr'⟩
  unfold owns
  icases Hs with ⟨%fs, %hfs, Hs⟩
  icases Hd with ⟨%fd, -, Hd⟩
  iapply (Rounds.wp_send_pointsTo 𝒱₀ EX (plan m) (c : Thread nD τ) none (κ₁ := K (c, i)) (κ₂ := K (peer c, j))
    (r₁ := 0) (r₂ := 0) (d₁ := ()) (d₂ := ()) (fs := fs) (fd := fd)
    (plan_mem m i c ()) (plan_mem m j (peer c) ()) () () (amt j) hN ((plan_amount m i c ()).trans hij) (plan_amount m j (peer c) ()) O hO (W := W)
    (by rw [plan_payload, hi, ← hfs]; exact owns_intro (c : Thread nD τ) (low B) fullShare.left fs)
    (by
      rw [plan_payload, hj]
      refine (owns_intro (peer c : Thread nD τ) (high B) fullShare _).trans (Entails.of_eq ?_)
      rw [View.read_write_univ, hfs])) $$ [HI HJ Hs Hd HO Ht Hr Ht' Hr']
  isplitl [HI]; · iexact HI
  isplitl [HJ]; · iexact HJ
  isplitl [Hs]; · iexact Hs
  isplitl [Hd]; · iexact Hd
  isplitl [HO]; · iexact HO
  isplitl [Ht]; · iexact Ht
  isplitl [Hr]; · iexact Hr
  isplitl [Ht']; · iexact Ht'
  iexact Hr'

/-- The output with the first `n` heads written. -/
def written (Q : Vec F S2x256x8x64 .bf16) (K0 V0 K1 V1 : Vec F S1x2x256x8x64 .bf16) (n : ℕ) : sProp 𝕄 :=
  iprop(∃ f : Vec F S2x256x8x64 .f32, ⌜upTo Q K0 V0 K1 V1 n f⌝ ∗ (oM.view.loc (c : Thread nD τ) ↦{fullShare} f))

/-- The load and store that write the next head. -/
theorem wp_head {Q : Vec F S2x256x8x64 .bf16} {K0 V0 K1 V1 : Vec F S1x2x256x8x64 .bf16} {n : ℕ} (b : Fin 2) (h : Fin 8) {b' h' : ℕ} {inb}
    (hb : b' = b.val) (hh : h' = h.val) (hn : n = 8 * b.val + h.val) {w : Vec F S1x256x1x64 .f32} (hw : w = stored Q K0 V0 K1 V1 b h)
    {hl : oM.view.LoadsAt (Rect.unit (s := S2x256x8x64) ![b', 0, h', 0] S1x256x1x64.size inb).toLoadRect}
    {hx : (oM.access (Rect.unit (s := S2x256x8x64) ![b', 0, h', 0] S1x256x1x64.size inb)).Stores Finset.univ}
    {hm : (Finset.univ : Finset (Rect.unit (s := S2x256x8x64) ![b', 0, h', 0] S1x256x1x64.size inb).shape.Idx) = Finset.univ ∨ ∀ a, (Rect.unit (s := S2x256x8x64) ![b', 0, h', 0] S1x256x1x64.size inb).stride a = 1}
    {α : Type} {P : α → sProp 𝕄} {k : PUnit → Prog (TpuEff nD τ sig (Elt F) Λ₀ .tc) α} :
    written c Q K0 V0 K1 V1 n
      ⊢ iprop((written c Q K0 V0 K1 V1 (n + 1) -∗ wp frame (wpE (defs₀ (F := F)) 𝒱₀ (c : Thread nD τ) none) Set.univ (k ⟨⟩) P)
          -∗ wp frame (wpE (defs₀ (F := F)) 𝒱₀ (c : Thread nD τ) none) Set.univ
            (.op (.load oM (Rect.unit (s := S2x256x8x64) ![b', 0, h', 0] S1x256x1x64.size inb).toLoadRect hl) fun _ =>
              .op (.store oM (Rect.unit (s := S2x256x8x64) ![b', 0, h', 0] S1x256x1x64.size inb) w Finset.univ hx hm) k) P) := by
  subst hw
  unfold written
  iintro ⟨%f, %hf, H⟩
  iintro Hk
  iapply (wp_load 𝒱₀ (c : Thread nD τ) none Set.univ (m := oM) (Finset.subset_univ _)) $$ H; iintro H
  iapply (wp_store 𝒱₀ (c : Thread nD τ) none Set.univ (m := oM) (r := Rect.unit (s := S2x256x8x64) ![b', 0, h', 0] S1x256x1x64.size inb) (Mk := Finset.univ) (f := f)
    (Finset.subset_univ _)) $$ H
  iintro H
  iapply Hk
  iexists ((oM.access (Rect.unit (s := S2x256x8x64) ![b', 0, h', 0] S1x256x1x64.size inb)).write (Elt F) f (stored Q K0 V0 K1 V1 b h) Finset.univ)
  isplitr
  · ipureintro; exact upTo_store Q K0 V0 K1 V1 b h hb hh hn hf
  iexact H

end Steps

section Body

variable (K : Dev nD × Fin 5 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ credits c ∗ levAts L lv ∗ someAt c kB ∗ someAt c vB)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(done c ∗ (dats m ρ 0 c).owesAt () t0_0.succ ∗ stg c cc0_stg0_0 (qBlk m c) ∗ stg c cc0_stg1_0 (kBlk m c) ∗ stg c cc0_stg2_0 (vBlk m c)
    ∗ stg c cc0_stg3_0 (outAt m c))

set_option maxHeartbeats 4000000 in
/-- The body on one device, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  rw [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, semSignalWord, semWaitWord, Prog.lift, Prog.bind_op, Prog.bind_ret, Prog.pure_eq_ret, wp_deviceId]
  unfold bodyPre ghost invs places marks tokens credits someAt
  iintro ⟨⟨⟨⟨⟨#I0, #I1, #I2, #I3, #I4, #J0, #J3, #J4⟩, ⟨A0, A1, A2, A3, A4⟩, ⟨#R0, #R1, #R2, #R3, #R4⟩, ⟨T0, T1, T2, T3, T4⟩⟩, ⟨C0, C3, C4⟩, #Hlev, ⟨%fk, Hk⟩, ⟨%fv, Hv⟩⟩,
    Ho, ⟨%d0, %g0, %hg0, Hq⟩, ⟨%d1, %g1, %hg1, Hkk⟩, ⟨%d2, %g2, %hg2, Hvv⟩, ⟨%d3, %g3, %hg3, Hout⟩⟩, Hkt⟩
  have hq : g0 = qBlk m c := by rw [hg0]; unfold Dat.before; rw [if_pos (fetch0_0 t0_0)]; rfl
  have hk : g1 = kBlk m c := by rw [hg1]; unfold Dat.before; rw [if_pos (fetch0_1 t0_0)]; rfl
  have hv : g2 = vBlk m c := by rw [hg2]; unfold Dat.before; rw [if_pos (fetch0_2 t0_0)]; rfl
  subst hq hk hv
  unfold Dat.owesAt Pipeline.owesWithin
  icases Ho with ⟨%W, %hW, HO⟩
  rw [show (dats m ρ 0 c).owed t0_0.castSucc = owedAll c from rfl]
  -- the device's own blocks into the two slots 0
  iapply (wp_load 𝒱₀ (c : Thread nD τ) none Set.univ (m := kM) (Finset.subset_univ _)) $$ Hkk; iintro Hkk
  rw [read_whole_k]
  iapply (wp_load 𝒱₀ (c : Thread nD τ) none Set.univ (m := kB) (S := kB.view.set) (by rw [View.set_whole]; exact Finset.subset_univ _)) $$ Hk; iintro Hk
  iapply (wp_store 𝒱₀ (c : Thread nD τ) none Set.univ (m := kB) (r := slot0) (Mk := Finset.univ) (S := kB.view.set) (f := fk) (by rw [View.set_whole]; exact Finset.subset_univ _)) $$ Hk; iintro Hk
  iapply (wp_load 𝒱₀ (c : Thread nD τ) none Set.univ (m := vM) (Finset.subset_univ _)) $$ Hvv; iintro Hvv
  rw [read_whole_v]
  iapply (wp_load 𝒱₀ (c : Thread nD τ) none Set.univ (m := vB) (S := vB.view.set) (by rw [View.set_whole]; exact Finset.subset_univ _)) $$ Hv; iintro Hv
  iapply (wp_store 𝒱₀ (c : Thread nD τ) none Set.univ (m := vB) (r := slot0) (Mk := Finset.univ) (S := vB.view.set) (f := fv) (by rw [View.set_whole]; exact Finset.subset_univ _)) $$ Hv; iintro Hv
  rw [pay1_up, pay2_up]
  ihave Hk := (slots_split kB c fk (kBlk m c)) $$ Hk
  ihave Hv := (slots_split vB c fv (vBlk m c)) $$ Hv
  icases Hk with ⟨⟨HkL, HkR⟩, HkH⟩
  icases Hv with ⟨⟨HvL, HvR⟩, HvH⟩
  simp only [dev1_eq c]
  -- the signal to the peer's barrier, with the two slots 1
  unfold owedAll
  iapply (Rounds.wp_signal 𝒱₀ EX (plan m) (c : Thread nD τ) none (dst := (peer c : Thread nD τ)) (κ := K (peer c, 0))
      (d := ()) (plan_mem m 0 (peer c) ()) ((plan_amount m 0 (peer c) ()).trans (by decide)) () (owedCopies c) rfl)
    $$ [HO T0 HkH HvH]
  · isplitr; · iexact J0
    isplitl [HO]; · iexact HO
    isplitl [T0]; · iexact T0
    isplitl [HkH HvH]
    · rw [plan_payload m 0 (peer c) ()]; unfold pay; dsimp only; rw [peer_peer]
      isplitl [HkH]; · iexact HkH
      isplitl [HvH]; · iexact HvH
      isplitr; · iexact R3
      iexact R4
    iexact R0
  iintro HO
  -- the wait for the peer's
  iapply (Rounds.wp_wait_rest_token 𝒱₀ EX (plan m) (c : Thread nD τ) none (κ := K (c, 0))
      (wpE_semWait_eq 𝒱₀ (c : Thread nD τ) none Set.univ) (Set.mem_univ _) () (O := owedCopies c) (W := W) (R := 0) (m := 0) (T := ∅)
      (by rw [plan_expect m 0 c]; decide)) $$ [C0 HO A0]
  · isplitr; · iexact I0
    isplitl [C0]; · iexact C0
    isplitl [HO]; · iexact HO
    isplitr; · iapply (mayWait_bar c); iexact Hlev
    iexact A0
  iintro ⟨HO, A0, -, Hp⟩
  ihave Hp := (Entails.of_eq (plan_rest m 0 c)) $$ Hp
  unfold pay; dsimp only
  icases Hp with ⟨Hpk, Hpv, #P3, #P4⟩
  -- the two copies
  unfold owedCopies
  iapply (wp_copy m kB c K 1 3 _ (dev2_eq c) (kBlk m c) rfl (by show owns _ _ _ (kBlk m (peer (peer c))) = _; rw [peer_peer]) rfl rfl
      (tallyAt (cell 4 (peer c)) () NV) rfl _) $$ [HkL Hpk HO T1 T3]
  · isplitr; · iexact I1
    isplitr; · iexact J3
    isplitl [HkL]; · iexact HkL
    isplitl [Hpk]; · iexact Hpk
    isplitl [HO]; · iexact HO
    isplitl [T1]; · iexact T1
    isplitr; · iexact R1
    isplitl [T3]; · iexact T3
    iexact P3
  iintro ⟨C1, HO⟩
  iapply (wp_copy m vB c K 2 4 _ (dev3_eq c) (vBlk m c) rfl (by show owns _ _ _ (vBlk m (peer (peer c))) = _; rw [peer_peer]) rfl rfl
      0 (zero_add _).symm _) $$ [HvL Hpv HO T2 T4]
  · isplitr; · iexact I2
    isplitr; · iexact J4
    isplitl [HvL]; · iexact HvL
    isplitl [Hpv]; · iexact Hpv
    isplitl [HO]; · iexact HO
    isplitl [T2]; · iexact T2
    isplitr; · iexact R2
    isplitl [T4]; · iexact T4
    iexact P4
  iintro ⟨C2, HO⟩
  -- the queries, and the device's own keys and values
  iapply (wp_load 𝒱₀ (c : Thread nD τ) none Set.univ (m := qM) (Finset.subset_univ _)) $$ Hq; iintro Hq
  rw [read_whole_q]
  iapply (wp_load_low kB c) $$ HkR; iintro HkR
  iapply (wp_load_low vB c) $$ HvR; iintro HvR
  -- the peer's keys, then the peer's values
  iapply (Rounds.wp_wait_rest_token 𝒱₀ EX (plan m) (c : Thread nD τ) none (κ := K (c, 3))
      (wpE_waitDma2_eq 𝒱₀ (c : Thread nD τ) none Set.univ) (Set.mem_univ _) () (O := 0) (W := insert (xsem 0, ()) W) (R := 0) (m := 0) (T := ∅)
      (by rw [Nat.zero_add, plan_expect m 3 c]; rfl)) $$ [C3 HO A3]
  · isplitr; · iexact I3
    isplitl [C3]; · iexact C3
    isplitl [HO]; · iexact HO
    isplitr; · rw [MayWait_zero]; iempintro
    iexact A3
  iintro ⟨HO, A3, -, Hp⟩
  ihave HkP := (Entails.of_eq (plan_rest m 3 c)) $$ Hp
  unfold pay; dsimp only
  iapply (wp_load_high kB c) $$ HkP; iintro HkP
  iapply (Rounds.wp_wait_rest_token 𝒱₀ EX (plan m) (c : Thread nD τ) none (κ := K (c, 4))
      (wpE_waitDma2_eq 𝒱₀ (c : Thread nD τ) none Set.univ) (Set.mem_univ _) () (O := 0) (W := insert (xsem 3, ()) (insert (xsem 0, ()) W)) (R := 0) (m := 0) (T := ∅)
      (by rw [Nat.zero_add, plan_expect m 4 c]; rfl)) $$ [C4 HO A4]
  · isplitr; · iexact I4
    isplitl [C4]; · iexact C4
    isplitl [HO]; · iexact HO
    isplitr; · rw [MayWait_zero]; iempintro
    iexact A4
  iintro ⟨HO, A4, -, Hp⟩
  ihave HvP := (Entails.of_eq (plan_rest m 4 c)) $$ Hp
  unfold pay; dsimp only
  iapply (wp_load_high vB c) $$ HvP; iintro HvP
  -- the sixteen heads
  ihave Hout : written c (qBlk m c) (up (kBlk m c)) (up (vBlk m c)) (up (kBlk m (peer c))) (up (vBlk m (peer c))) 0 $$ [Hout]
  · unfold written; iexists g3
    isplitr; · ipureintro; exact upTo_zero _ _ _ _ _ g3
    iexact Hout
  iapply (wp_head c 0 0 rfl rfl rfl (stored_0_0 (qBlk m c) (up (kBlk m c)) (up (vBlk m c)) (up (kBlk m (peer c))) (up (vBlk m (peer c))))) $$ Hout; iintro Hout
  iapply (wp_head c 0 1 rfl rfl rfl (stored_0_1 (qBlk m c) (up (kBlk m c)) (up (vBlk m c)) (up (kBlk m (peer c))) (up (vBlk m (peer c))))) $$ Hout; iintro Hout
  iapply (wp_head c 0 2 rfl rfl rfl (stored_0_2 (qBlk m c) (up (kBlk m c)) (up (vBlk m c)) (up (kBlk m (peer c))) (up (vBlk m (peer c))))) $$ Hout; iintro Hout
  iapply (wp_head c 0 3 rfl rfl rfl (stored_0_3 (qBlk m c) (up (kBlk m c)) (up (vBlk m c)) (up (kBlk m (peer c))) (up (vBlk m (peer c))))) $$ Hout; iintro Hout
  iapply (wp_head c 0 4 rfl rfl rfl (stored_0_4 (qBlk m c) (up (kBlk m c)) (up (vBlk m c)) (up (kBlk m (peer c))) (up (vBlk m (peer c))))) $$ Hout; iintro Hout
  iapply (wp_head c 0 5 rfl rfl rfl (stored_0_5 (qBlk m c) (up (kBlk m c)) (up (vBlk m c)) (up (kBlk m (peer c))) (up (vBlk m (peer c))))) $$ Hout; iintro Hout
  iapply (wp_head c 0 6 rfl rfl rfl (stored_0_6 (qBlk m c) (up (kBlk m c)) (up (vBlk m c)) (up (kBlk m (peer c))) (up (vBlk m (peer c))))) $$ Hout; iintro Hout
  iapply (wp_head c 0 7 rfl rfl rfl (stored_0_7 (qBlk m c) (up (kBlk m c)) (up (vBlk m c)) (up (kBlk m (peer c))) (up (vBlk m (peer c))))) $$ Hout; iintro Hout
  iapply (wp_head c 1 0 rfl rfl rfl (stored_1_0 (qBlk m c) (up (kBlk m c)) (up (vBlk m c)) (up (kBlk m (peer c))) (up (vBlk m (peer c))))) $$ Hout; iintro Hout
  iapply (wp_head c 1 1 rfl rfl rfl (stored_1_1 (qBlk m c) (up (kBlk m c)) (up (vBlk m c)) (up (kBlk m (peer c))) (up (vBlk m (peer c))))) $$ Hout; iintro Hout
  iapply (wp_head c 1 2 rfl rfl rfl (stored_1_2 (qBlk m c) (up (kBlk m c)) (up (vBlk m c)) (up (kBlk m (peer c))) (up (vBlk m (peer c))))) $$ Hout; iintro Hout
  iapply (wp_head c 1 3 rfl rfl rfl (stored_1_3 (qBlk m c) (up (kBlk m c)) (up (vBlk m c)) (up (kBlk m (peer c))) (up (vBlk m (peer c))))) $$ Hout; iintro Hout
  iapply (wp_head c 1 4 rfl rfl rfl (stored_1_4 (qBlk m c) (up (kBlk m c)) (up (vBlk m c)) (up (kBlk m (peer c))) (up (vBlk m (peer c))))) $$ Hout; iintro Hout
  iapply (wp_head c 1 5 rfl rfl rfl (stored_1_5 (qBlk m c) (up (kBlk m c)) (up (vBlk m c)) (up (kBlk m (peer c))) (up (vBlk m (peer c))))) $$ Hout; iintro Hout
  iapply (wp_head c 1 6 rfl rfl rfl (stored_1_6 (qBlk m c) (up (kBlk m c)) (up (vBlk m c)) (up (kBlk m (peer c))) (up (vBlk m (peer c))))) $$ Hout; iintro Hout
  iapply (wp_head c 1 7 rfl rfl rfl (stored_1_7 (qBlk m c) (up (kBlk m c)) (up (vBlk m c)) (up (kBlk m (peer c))) (up (vBlk m (peer c))))) $$ Hout; iintro Hout
  -- the copies out of the slots 0 have left
  iapply (Rounds.wp_wait_rest_token 𝒱₀ EX (plan m) (c : Thread nD τ) none (κ := K (c, 1))
      (wpE_waitDma2_eq 𝒱₀ (c : Thread nD τ) none Set.univ) (Set.mem_univ _) () (O := 0) (W := insert (xsem 4, ()) (insert (xsem 3, ()) (insert (xsem 0, ()) W))) (R := 0) (m := 0) (T := ∅)
      (by rw [Nat.zero_add, plan_expect m 1 c]; rfl)) $$ [C1 HO A1]
  · isplitr; · iexact I1
    isplitl [C1]; · iexact C1
    isplitl [HO]; · iexact HO
    isplitr; · rw [MayWait_zero]; iempintro
    iexact A1
  iintro ⟨HO, A1, -, Hp⟩
  ihave HkL := (Entails.of_eq (plan_rest m 1 c)) $$ Hp
  iapply (Rounds.wp_wait_rest_token 𝒱₀ EX (plan m) (c : Thread nD τ) none (κ := K (c, 2))
      (wpE_waitDma2_eq 𝒱₀ (c : Thread nD τ) none Set.univ) (Set.mem_univ _) () (O := 0) (W := insert (xsem 1, ()) (insert (xsem 4, ()) (insert (xsem 3, ()) (insert (xsem 0, ()) W)))) (R := 0) (m := 0) (T := ∅)
      (by rw [Nat.zero_add, plan_expect m 2 c]; rfl)) $$ [C2 HO A2]
  · isplitr; · iexact I2
    isplitl [C2]; · iexact C2
    isplitl [HO]; · iexact HO
    isplitr; · rw [MayWait_zero]; iempintro
    iexact A2
  iintro ⟨HO, A2, -, Hp⟩
  ihave HvL := (Entails.of_eq (plan_rest m 2 c)) $$ Hp
  unfold pay; dsimp only
  -- the five cells close
  imod (Rounds.cell_close EX (plan m) (Set.mem_univ (K (c, 0))) (fun h => h) (R := 0 + 1) (plan_done m (cell 0 c))) $$ [A0] with Z0
  · isplitr; · iexact I0
    iexact A0
  imod (Rounds.cell_close EX (plan m) (Set.mem_univ (K (c, 1))) (fun h => h) (R := 0 + 1) (plan_done m (cell 1 c))) $$ [A1] with Z1
  · isplitr; · iexact I1
    iexact A1
  imod (Rounds.cell_close EX (plan m) (Set.mem_univ (K (c, 2))) (fun h => h) (R := 0 + 1) (plan_done m (cell 2 c))) $$ [A2] with Z2
  · isplitr; · iexact I2
    iexact A2
  imod (Rounds.cell_close EX (plan m) (Set.mem_univ (K (c, 3))) (fun h => h) (R := 0 + 1) (plan_done m (cell 3 c))) $$ [A3] with Z3
  · isplitr; · iexact I3
    iexact A3
  imod (Rounds.cell_close EX (plan m) (Set.mem_univ (K (c, 4))) (fun h => h) (R := 0 + 1) (plan_done m (cell 4 c))) $$ [A4] with Z4
  · isplitr; · iexact I4
    iexact A4
  rw [wp_ret]; imodintro
  iapply Hkt
  unfold bodyPost done someAt Dat.owesAt Pipeline.owesWithin
  rw [show (dats m ρ 0 c).owed t0_0.succ = 0 from rfl]
  isplitl [HkL HkR HkP HvL HvR HvP Z0 Z1 Z2 Z3 Z4]
  · isplitl [HkL HkR HkP]
    · iapply (slots_join kB c (kBlk m c) (kBlk m c) (kBlk m (peer c))) $$ [HkL HkR HkP]
      isplitl [HkL]; · iexact HkL
      isplitl [HkR]; · iexact HkR
      iexact HkP
    isplitl [HvL HvR HvP]
    · iapply (slots_join vB c (vBlk m c) (vBlk m c) (vBlk m (peer c))) $$ [HvL HvR HvP]
      isplitl [HvL]; · iexact HvL
      isplitl [HvR]; · iexact HvR
      iexact HvP
    isplitl [Z0]; · iexact Z0
    isplitl [Z1]; · iexact Z1
    isplitl [Z2]; · iexact Z2
    isplitl [Z3]; · iexact Z3
    iexact Z4
  isplitl [HO]
  · iexists (insert (xsem 2, ()) (insert (xsem 1, ()) (insert (xsem 4, ()) (insert (xsem 3, ()) (insert (xsem 0, ()) W)))))
    isplitr; · ipureintro; exact fun _ _ => Or.inl trivial
    iexact HO
  isplitl [Hq]
  · iexists _; isplitr; · (ipureintro; rfl)
    iexact Hq
  isplitl [Hkk]
  · iexists _; isplitr; · (ipureintro; rfl)
    iexact Hkk
  isplitl [Hvv]
  · iexists _; isplitr; · (ipureintro; rfl)
    iexact Hvv
  unfold written
  icases Hout with ⟨%f, %hf, Hout⟩
  iexists f
  isplitr; · ipureintro; exact upTo_all _ _ _ _ _ hf
  iexact Hout

end Body

end Cert.KernelIdeal.Attn

end
-- ==== Proof.Launch.lean ====
/-
# Attention with the keys exchanged between two devices — the launch

Every device's counters become the cells of the exchange, the duty tokens are dealt to the devices that pay them,
and the credit each device is owed at launch is what its peer owes. The run: all thirty-two devices terminate,
each with its output written, its inputs unchanged and its counters at zero.
-/
module

public import proofs.«01_k».proof.Proof.Run
public import Idealize.ShloMosaic.Lib.Pipeline.CollectiveSegs

@[expose] public section

set_option maxRecDepth 16384

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What the launch hands the body, in the order the launch hands it. -/
def bodyEnds (c : Dev nD) : sProp 𝕄 :=
  iprop(before m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

theorem body_obligation (c : Dev nD) : BodyObligation (dats (F := F) m ρ 0 c) (defs₀ (F := F)) 𝒱₀ () Set.univ := fun t => by
  rw [show t = t0_0 from fin_N0 t]
  rw [show (bigSep Finset.univ : (Fin cfg0.W → sProp 𝕄) → sProp 𝕄) = _ from funext bigSep_W0]
  simp only [owns_whole_eq]
  show bodyEnds m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3) (fun _ => bodyPost m ρ c)
  unfold bodyEnds before start
  iintro ⟨⟨⟨⟨%K, Hg⟩, Hc, Hlev⟩, Hk, Hv⟩, Ho, Hx⟩
  iapply (sound_body m ρ K c fun _ => bodyPost m ρ c)
  unfold bodyPre
  isplitr []
  · isplitl [Hg Hc Hlev Hk Hv]
    · isplitl [Hg]; · iexact Hg
      isplitl [Hc]; · iexact Hc
      isplitl [Hlev]; · iexact Hlev
      isplitl [Hk]; · iexact Hk
      iexact Hv
    isplitl [Ho]; · iexact Ho
    iexact Hx
  · iintro H; iexact H

/-! ## The ghost state, dealt -/

/-- The kernel's own four semaphores. -/
abbrev osem (k : Fin 4) : SemLoc sig := xsem k.succ

theorem ownSemFacts : Pipeline.OwnSemFacts cfg0.spec osem := by decide

theorem share_eq (c : Dev nD) (w : Fin cfg0.W) : (dats m ρ 0 c).share w = fullShare := by unfold Dat.share; split <;> rfl

/-- A cell by device and place. -/
abbrev kcell (ck : Dev nD × Fin 5) : GSem nD τ sig := cell ck.2 ck.1

theorem kcell_injective : Function.Injective kcell := fun a b h =>
  Prod.ext (congrArg (fun g : GSem nD τ sig => g.1.1) h) (xsem_injective (congrArg Prod.snd h))

def allCells : Finset (GSem nD τ sig) := Finset.univ.map ⟨kcell, kcell_injective⟩

/-- The token of a cell's one duty, as minted. -/
abbrev tokOf (ck : Dev nD × Fin 5) : GSem nD τ sig × ℕ × Unit := (kcell ck, 0, ())
theorem tokOf_injective : Function.Injective tokOf := fun a b h => kcell_injective (congrArg Prod.fst h)
def allToks : Finset (GSem nD τ sig × ℕ × Unit) := Finset.univ.map ⟨tokOf, tokOf_injective⟩

def u₀ : UU := (initOf (Pipeline.cells cfgs cellOf_inj) (Pipeline.launchToks cfgs cellOf_inj), initOf allCells allToks)

/-- The tokens of a device's own cells. -/
def minted (c : Dev nD) : sProp 𝕄 := bigSep Finset.univ fun k : Fin 5 => dutyTok EX (kcell (c, k)) 0 ()

/-- What the launch element deals a device, -/
def G (c : Dev nD) : sProp 𝕄 :=
  iprop((bigSep Finset.univ fun k : Fin 5 => roundState EX (plan m) (kcell (c, k)) 0)
    ∗ (bigSep Finset.univ fun k : Fin 5 => iprop(atPos EX (kcell (c, k)) 0 ∅ 0 ∗ reached EX (kcell (c, k)) 0)) ∗ minted c)
/-- and what the step over all devices makes of it. -/
def G' (c : Dev nD) : sProp 𝕄 := iprop(∃ K, ghost m K c)

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_all : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 5 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => minted c := by
    unfold allToks; rw [bigSep_map, bigSep_univ_prod]; rfl
  iintro HX
  imod (Rounds.fund EX (plan m) allCells allToks) $$ HX with ⟨Hst, Hr, Hat, Htok⟩
  imodintro
  ihave Hst' := (Entails.of_eq (hX fun g => roundState EX (plan m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (cell 1 c) 0 ∗ semVal (cell 2 c) 0 ∗ semVal (cell 3 c) 0 ∗ semVal (cell 4 c) 0) := by
  rw [Pipeline.ownSems0_eq_of_list c osem [0, 1, 2, 3] (by decide) (by decide)]; rfl
omit [FloatOps F] in
/-- The barrier semaphore is the launch's one unscoped semaphore. -/
theorem unscopedSems0_eq (c : Dev nD) : (unscopedSems0 c : sProp 𝕄) = semVal (cell 0 c) 0 := by
  unfold unscopedSems0; rw [bigSep_eq_bigSepL_of_eq [SemLoc.reg barS] (by decide) (by decide)]; rfl

omit [FloatOps F] in
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_five]
  iintro ⟨H, H0⟩
  isplitl [H0]; · iexact H0
  iexact H

/-- A device's counters and round states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (plan m) κ (kcell (c, k))))
          ∗ (bigSep Finset.univ fun k => iprop(atPos EX (kcell (c, k)) 0 ∅ 0 ∗ reached EX (kcell (c, k)) 0)) ∗ minted c) := by
  unfold G
  iintro ⟨Hos, Hus, Hst, Hat, Htok⟩
  ihave Hv := (counters (F := F) c) $$ [Hos Hus]
  · isplitl [Hos] <;> iassumption
  imod (show iprop((bigSep Finset.univ fun k : Fin 5 => semVal (kcell (c, k)) 0) ∗ bigSep Finset.univ fun k : Fin 5 => roundState EX (plan m) (kcell (c, k)) 0)
      ⊢ (|={Set.univ}=> bigSep Finset.univ fun k => iprop(∃ κ : ℕ, cellInv EX (plan m) κ (kcell (c, k))) : sProp 𝕄) from by
        rw [← bigSep_sep']
        exact (bigSep_mono fun k _ => (Rounds.body_intro EX (plan m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant and mark, the same for all devices. -/
def records (K : Dev nD × Fin 5 → ℕ) : sProp 𝕄 :=
  iprop((bigSep Finset.univ fun ck : Dev nD × Fin 5 => cellInv EX (plan m) (K ck) (kcell ck))
    ∗ bigSep Finset.univ fun ck : Dev nD × Fin 5 => reached EX (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv EX (plan m) (K ck) (kcell ck) : sProp 𝕄)) ⊢ cellInv EX (plan m) (K ck) (kcell ck) :=
  bigSep_elim (Finset.mem_univ ck)
omit [FloatOps F] in
theorem mark_at (ck : Dev nD × Fin 5) :
    (bigSep Finset.univ fun ck : Dev nD × Fin 5 => (reached EX (kcell ck) 0 : sProp 𝕄)) ⊢ reached EX (kcell ck) 0 :=
  bigSep_elim (Finset.mem_univ ck)

theorem ghost_intro (K : Dev nD × Fin 5 → ℕ) (c : Dev nD) : iprop(records m K ∗ places c ∗ tokens c) ⊢ G' m c := by
  unfold records G' ghost invs marks
  iintro ⟨⟨#HI, #HR⟩, Hp, Ht⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [Hp]; · iexact Hp
  isplitr
  · isplitr; · iapply (mark_at (F := F) (peer c, 0)); iexact HR
    isplitr; · iapply (mark_at (F := F) (c, 1)); iexact HR
    isplitr; · iapply (mark_at (F := F) (c, 2)); iexact HR
    isplitr; · iapply (mark_at (F := F) (c, 3)); iexact HR
    iapply (mark_at (F := F) (c, 4)); iexact HR
  iexact Ht

omit [FloatOps F] in
/-- The barrier and receive tokens go to the peer, the send tokens stay. -/
theorem deal : (bigSep Finset.univ fun c : Dev nD => (minted c : sProp 𝕄)) ⊢ bigSep Finset.univ fun c : Dev nD => tokens c := by
  refine Entails.of_eq ?_
  unfold minted tokens
  simp only [bigSep_five, bigSep_sep']
  rw [bigSep_univ_equiv flip (fun c : Dev nD => (dutyTok EX (kcell (c, 0)) 0 () : sProp 𝕄)),
    bigSep_univ_equiv flip (fun c : Dev nD => (dutyTok EX (kcell (c, 3)) 0 () : sProp 𝕄)),
    bigSep_univ_equiv flip (fun c : Dev nD => (dutyTok EX (kcell (c, 4)) 0 () : sProp 𝕄))]
  rfl

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem places_eq (c : Dev nD) : (bigSep Finset.univ fun k : Fin 5 => (atPos EX (kcell (c, k)) 0 ∅ 0 : sProp 𝕄)) = places c := by
  rw [bigSep_five]; rfl

theorem regroup :
    (bigSep Finset.univ fun c : Dev nD => iprop((bigSep Finset.univ fun k => iprop(∃ κ : ℕ, cellInv EX (plan m) κ (kcell (c, k))))
          ∗ (bigSep Finset.univ fun k => iprop(atPos EX (kcell (c, k)) 0 ∅ 0 ∗ reached EX (kcell (c, k)) 0)) ∗ minted c) : sProp 𝕄)
      ⊢ bigSep Finset.univ (G' m) := by
  rw [bigSep_sep', bigSep_sep', ← bigSep_univ_prod (fun ck : Dev nD × Fin 5 => iprop(∃ κ : ℕ, cellInv EX (plan m) κ (kcell ck))),
    bigSep_congr (s := Finset.univ) (fun (c : Dev nD) _ => bigSep_sep' Finset.univ (fun k : Fin 5 => (atPos EX (kcell (c, k)) 0 ∅ 0 : sProp 𝕄)) (fun k => reached EX (kcell (c, k)) 0)),
    bigSep_sep', ← bigSep_univ_prod (fun ck : Dev nD × Fin 5 => (reached EX (kcell ck) 0 : sProp 𝕄))]
  iintro ⟨HI, ⟨Hat, #HR⟩, Htok⟩
  ihave HK := (BI.bigSep_exists_pi Finset.univ (fun (ck : Dev nD × Fin 5) (κ : ℕ) => (cellInv EX (plan m) κ (kcell ck) : sProp 𝕄))) $$ HI
  icases HK with ⟨%K, #HI⟩
  ihave Htk := (deal (F := F)) $$ Htok
  iapply (with_records (R := records m K) fun c => ghost_intro m K c)
  isplitr
  · unfold records; isplitl; · iexact HI
    iexact HR
  · rw [bigSep_sep']
    isplitl [Hat]
    · iapply (Entails.of_eq (bigSep_congr (s := Finset.univ) fun (c : Dev nD) _ => places_eq (F := F) c)) $$ Hat
    iexact Htk

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem cell_eq_iff {j k : Fin 5} {a b : Dev nD} : Iff (cell j a = cell k b) (j = k ∧ a = b) :=
  ⟨fun h => (Prod.ext_iff.mp (kcell_injective (a₁ := (a, j)) (a₂ := (b, k)) h)).symm, fun ⟨h, h'⟩ => h ▸ h' ▸ rfl⟩

/-- What device `d` owes a cell of device `c`: to its peer's barrier and receive cells what they are paid. -/
theorem owed_cell (d c : Dev nD) (k : Fin 5) (hk : k = 0 ∨ k = 3 ∨ k = 4) : owedAll d (cell k c) () = if d = peer c then amt k else 0 := by
  unfold owedAll owedCopies
  simp only [Pi.add_apply, Finsupp.add_apply, tallyAt_apply, cell_eq_iff]
  have hd : c = peer d ↔ d = peer c := ⟨fun h => by rw [h, peer_peer], fun h => by rw [h, peer_peer]⟩
  have hKV : recvK ≠ recvV := by decide
  rcases hk with rfl | rfl | rfl <;> simp [hd, amt, hKV, hKV.symm]

theorem launch_cell (c : Dev nD) (k : Fin 5) (hk : k = 0 ∨ k = 3 ∨ k = 4) :
    tallyOn (cell k c) (launchCredit (Pipeline.owing owedAll) 0 (cell k c)) = (tallyAt (cell k c) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk, Finset.sum_ite_eq' Finset.univ (peer c) fun _ => amt k,
    if_pos (Finset.mem_univ _)]

omit [FloatOps F] in
theorem creds (c : Dev nD) : (Pipeline.launchCred owedAll c : sProp 𝕄) ⊢ credits c := by
  unfold Pipeline.launchCred credits
  rw [bigSep_univ_at _ (xsem 0), launch_cell c 0 (Or.inl rfl)]
  refine sep_mono_right ?_
  rw [BI.bigSep_erase (i := xsem 3) (Finset.mem_erase.mpr ⟨by decide, Finset.mem_univ _⟩), launch_cell c 3 (Or.inr (Or.inl rfl))]
  refine sep_mono_right ?_
  rw [← show amt 4 = NV from rfl, ← launch_cell c 4 (Or.inr (Or.inr rfl))]
  exact bigSep_elim (s := (Finset.univ.erase (xsem 0)).erase (xsem 3)) (i := xsem 4)
    (Φ := fun sm : SemLoc sig => (cred (tallyOn ((c.tc : Thread nD τ), sm) (launchCredit (Pipeline.owing owedAll) 0 ((c.tc : Thread nD τ), sm))) : sProp 𝕄))
    (Finset.mem_erase.mpr ⟨by decide, Finset.mem_erase.mpr ⟨by decide, Finset.mem_univ _⟩⟩)

/-! ## The launch's side conditions -/

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem body_start (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before someAt
  simp only [View.set_whole, Memref.view_whole]
  iintro ⟨Hs, -, Hk, Hv⟩
  isplitl [Hs]; · iexact Hs
  isplitl [Hk]; · iexact Hk
  iexact Hv

theorem body_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scopedRest0_eq, ownSems0_eq, unscopedSems0_eq]
  unfold done someAt
  simp only [View.set_whole, Memref.view_whole]
  iintro ⟨Hk, Hv, Z0, Z⟩
  isplitl [Z0]; · iexact Z0
  isplitl [Z]; · iexact Z
  isplitl [Hk]; · iexact Hk
  iexact Hv

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every device's arrays hold what its run leaves. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution on the thirty-two devices
    terminates, with every device's arrays as its run leaves them and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := body_start m ρ) (hout := body_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The three argument arrays hold what they held. -/
theorem final_arg (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.KernelIdeal.Attn

end
-- ==== Proof.Frames.lean ====
/-
# Two-device attention — the frames

The kernel's run at the bit-exact reading and at the ideal one, with the values dropped; the reference's
straight line likewise.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch

@[expose] public section

noncomputable section

namespace Cert.KernelIdeal.Attn

open Idealize.ShloMosaic Idealize.ShloMosaic.TcCoe Idealize.SL.Sem

section
open Cert.KernelIdeal Cert.KernelIdeal.Gen
variable {F : FTy → Type} [FloatOps F]

/-- The run, read at the three argument arrays. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c (0 : Fin 4)).trans (final_arg m ρ c (0 : Fin 4) rfl),
    (h.1 c (1 : Fin 4)).trans (final_arg m ρ c (1 : Fin 4) rfl), (h.1 c (2 : Fin 4)).trans (final_arg m ρ c (2 : Fin 4) rfl)⟩, h.2⟩) (run_main m ρ)
end

/-- The two printed programs have the same bodies, -/
theorem bodies_eq : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))
/-- so the same tables. -/
theorem defs_eq : Cert.Kernel.defs (F := Bits) = Cert.KernelIdeal.defs (F := Bits) :=
  congrArg (Pipeline.defs (Cert.Kernel.pcfgs (F := Bits))) bodies_eq

theorem frame_kernel : Cert.quiescent_Kernel := by
  intro m ρ _
  rw [defs_eq]
  exact run_args (F := Bits) m ρ

theorem frame_ideal : Cert.quiescent_KernelIdeal := fun m ρ _ => run_args (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Attn

end
-- ==== Proof.Softmax.lean ====
/-
# Two-device attention — softmax with and without the maximum subtracted

The values are extended reals. A weight is the exponential of a real score, so it is a positive real, and a positive
real distributes over every sum of extended reals: the mixed values need not be finite.
-/
module

public import Idealize.ShloMosaic.Lib.IdealHost

@[expose] public section

noncomputable section

namespace Cert.KernelIdeal.Attn

open Idealize.ShloMosaic

/-- A real that is not negative distributes over a sum of extended reals. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero. -/
theorem div_coe (x : EReal) {y : ℝ} (hy : y ≠ 0) : Ideal.div x (y : EReal) = x * ((y⁻¹ : ℝ) : EReal) := by
  unfold Ideal.div; rw [if_neg (by exact_mod_cast hy), EReal.coe_inv]

/-- Softmax of real scores, the maximum (or any real) subtracted and each weight normalised before it meets its value, is
    the quotient of the two plain sums. -/
theorem softmax_eq {ι : Type} [Fintype ι] [Nonempty ι] (s : ι → ℝ) (M : ℝ) (v : ι → EReal) :
    ∑ k, v k * Ideal.div (Ideal.exp ((s k : EReal) - (M : EReal))) (∑ j, Ideal.exp ((s j : EReal) - (M : EReal)))
      = Ideal.div (∑ k, Ideal.exp (s k : EReal) * v k) (∑ k, Ideal.exp (s k : EReal)) := by
  have hL : (0 : ℝ) < ∑ k, Real.exp (s k) := Finset.sum_pos (fun _ _ => Real.exp_pos _) Finset.univ_nonempty
  have he : ∀ k, Ideal.exp ((s k : EReal) - (M : EReal)) = ((Real.exp (s k) * Real.exp (-M) : ℝ) : EReal) := fun k => by
    rw [← EReal.coe_sub, Ideal.exp_coe, sub_eq_add_neg, Real.exp_add]
  simp only [he, Ideal.exp_coe, ← coe_sum]
  rw [← Finset.sum_mul, div_coe _ hL.ne', mul_comm (∑ k, _ * v k) _, coe_mul_sum _ (inv_nonneg.mpr hL.le)]
  refine Finset.sum_congr rfl fun k _ => ?_
  rw [div_coe _ (mul_pos hL (Real.exp_pos _)).ne', ← EReal.coe_mul, ← mul_assoc, ← EReal.coe_mul, mul_comm]
  congr 2
  have := (Real.exp_pos (-M)).ne'
  field_simp

end Cert.KernelIdeal.Attn

end
-- ==== Proof.Head.lean ====
/-
# Two-device attention — a device's output at an index, over the extended reals

The output at one query and one column is the quotient of two sums over the keys of both blocks: the exponentials of the
scores times the values, and the exponentials alone. The kernel scales the queries before the product; over real
queries and keys the scale comes out of the score.
-/
module

public import proofs.«01_k».proof.Proof.Softmax
public import proofs.«01_k».proof.Proof.Output
public import Idealize.ShloMosaic.Lib.Pointwise

@[expose] public section

noncomputable section

namespace Cert.KernelIdeal.Attn

open Cert.KernelIdeal Cert.KernelIdeal.Gen
open Idealize.ShloMosaic

/-- One eighth, as the kernel writes it -/
theorem eighth_bf16 : Ideal.ofBits .bf16 0x3E00#16 = ((1 / 8 : ℝ) : EReal) := by
  simp [Ideal.ofBits, Ideal.ieee, -EReal.coe_mul]; norm_num
/-- and as the reference does. -/
theorem eighth_f32 : Ideal.ofBits .f32 0x3E000000#32 = ((1 / 8 : ℝ) : EReal) := by
  simp [Ideal.ofBits, Ideal.ieee, -EReal.coe_mul]; norm_num

/-- The score of a real query and a real key. -/
def score {n : ℕ} (x y : Fin n → ℝ) : ℝ := (∑ e, x e * y e) * (1 / 8)

/-- The product of the two, scaled after it, -/
theorem score_after {n : ℕ} (x y : Fin n → ℝ) : (∑ e, (x e : EReal) * (y e : EReal)) * ((1 / 8 : ℝ) : EReal) = (score x y : EReal) := by
  unfold score; simp only [EReal.coe_mul, coe_sum]
/-- or the query scaled before it. -/
theorem score_before {n : ℕ} (x y : Fin n → ℝ) : ∑ e, (x e : EReal) * ((1 / 8 : ℝ) : EReal) * (y e : EReal) = (score x y : EReal) := by
  unfold score
  rw [Finset.sum_mul, coe_sum]
  exact Finset.sum_congr rfl fun e _ => by rw [mul_right_comm, EReal.coe_mul, EReal.coe_mul]

/-- A head's output at a query and a column, over real queries scaled by an eighth and real keys. -/
theorem attend_apply (Q K V K' V' : FVec Ideal S256x64 .bf16) (i : Fin 256) (d : Fin 64)
    (q : Fin 64 → ℝ) (k k' : Fin 256 → Fin 64 → ℝ) (v v' : Fin 256 → EReal)
    (hQ : ∀ e, Q (ix2 i e) = (q e : EReal) * ((1 / 8 : ℝ) : EReal))
    (hK : ∀ j e, K (ix2 j e) = (k j e : EReal)) (hV : ∀ j, V (ix2 j d) = v j)
    (hK' : ∀ j e, K' (ix2 j e) = (k' j e : EReal)) (hV' : ∀ j, V' (ix2 j d) = v' j) :
    attend Q K V K' V' (ix2 i d) = Ideal.div
      (∑ j, Ideal.exp (score q (k j) : EReal) * v j + ∑ j, Ideal.exp (score q (k' j) : EReal) * v' j)
      (∑ j, Ideal.exp (score q (k j) : EReal) + ∑ j, Ideal.exp (score q (k' j) : EReal)) := by
  unfold attend mixed total weights
  pointwise
  simp only [hQ, hK, hV, hK', hV', score_before]

section Heads
variable (X : Vec Ideal S2x256x8x64 .bf16) (b : Fin 2) (h : Fin 8) (i : Fin 256) (d : Fin 64)

/-- A head of the scaled queries, -/
theorem head_q : headOf b h (k0_pay3 X) (ix2 i d) = X (ix4 b i h d) * ((1 / 8 : ℝ) : EReal) := by
  unfold headOf k0_pay3; pointwise; rw [eighth_bf16]
/-- of the keys and values a device copied to its own slot, -/
theorem head_k : headOf b h (k0_pay4 (up X)) (ix2 i d) = X (ix4 b i h d) := by
  unfold headOf k0_pay4 up; pointwise
theorem head_v : headOf b h (k0_pay5 (up X)) (ix2 i d) = X (ix4 b i h d) := by
  unfold headOf k0_pay5 up; pointwise
/-- and of those it received. -/
theorem head_k' : headOf b h (k0_pay57 (up X)) (ix2 i d) = X (ix4 b i h d) := by
  unfold headOf k0_pay57 up; pointwise
theorem head_v' : headOf b h (k0_pay108 (up X)) (ix2 i d) = X (ix4 b i h d) := by
  unfold headOf k0_pay108 up; pointwise
end Heads

/-- A device's output at an index, its queries and both blocks of keys real, the values any extended reals. -/
theorem outVal_apply (q k k' : S2x256x8x64.Idx → ℝ) (Q K V K' V' : Vec Ideal S2x256x8x64 .bf16)
    (hQ : ∀ i, Q i = (q i : EReal)) (hK : ∀ i, K i = (k i : EReal)) (hK' : ∀ i, K' i = (k' i : EReal))
    (b : Fin 2) (i : Fin 256) (h : Fin 8) (d : Fin 64) :
    outVal Q (up K) (up V) (up K') (up V') (ix4 b i h d) = Ideal.div
      (∑ j, Ideal.exp (score (fun e => q (ix4 b i h e)) (fun e => k (ix4 b j h e)) : EReal) * V (ix4 b j h d)
        + ∑ j, Ideal.exp (score (fun e => q (ix4 b i h e)) (fun e => k' (ix4 b j h e)) : EReal) * V' (ix4 b j h d))
      (∑ j, Ideal.exp (score (fun e => q (ix4 b i h e)) (fun e => k (ix4 b j h e)) : EReal)
        + ∑ j, Ideal.exp (score (fun e => q (ix4 b i h e)) (fun e => k' (ix4 b j h e)) : EReal)) :=
  attend_apply _ _ _ _ _ i d _ _ _ _ _ (fun e => (head_q Q b h i e).trans (by rw [hQ])) (fun j e => (head_k K b h j e).trans (hK _)) (fun j => head_v V b h j d)
    (fun j e => (head_k' K' b h j e).trans (hK' _)) (fun j => head_v' V' b h j d)

end Cert.KernelIdeal.Attn

end
-- ==== Proof.Reference.lean ====
/-
# Two-device attention — the reference at an index, over the extended reals

The reference subtracts each query's largest score before the exponential and divides every weight by their sum before
it meets its value. Over real queries and keys the largest score is real, so its output is the same quotient of two
plain sums, over all 512 keys.
-/
module

public import proofs.«01_k».proof.Proof.Head
public import proofs.«01_k».proof.Proof.Gen.ReferenceIdeal
public import Idealize.ShloMosaic.PureOps.Ideal.Laws

@[expose] public section

noncomputable section

namespace Cert.ReferenceIdeal.Attn

open Cert.ReferenceIdeal Cert.ReferenceIdeal.Gen
open Idealize.ShloMosaic
open Cert.KernelIdeal.Attn (score score_after eighth_f32 softmax_eq)

/-- The scores of every query with every key, -/
def scores (Q K : FVec Ideal S2x512x8x64 .bf16) : FVec Ideal S2x8x512x512 .f32 :=
  mulf (Host.dotGeneral dot_S2x512x8x64_S2x512x8x64_S2x8x512x512_3_3_1_1_02_02 none (extf .f32 Q bitsLt_bf16_f32) (extf .f32 K bitsLt_bf16_f32))
    (broadcastInDim S2x8x512x512 ![] bcast_S_S2x8x512x512 (constant S_ .f32 0x3E000000#32))

/-- each query's largest, -/
def largest (S : FVec Ideal S2x8x512x512 .f32) : FVec Ideal S2x8x512 .f32 :=
  Host.reduce FloatOps.maximumf S (constant S_ .f32 0xFF800000#32) reducesTo_S2x8x512x512_S2x8x512_d3 h_S_

/-- one number per query, for every key, -/
def spread (M : FVec Ideal S2x8x512 .f32) : FVec Ideal S2x8x512x512 .f32 :=
  broadcastInDim S2x8x512x512 ![0, 1, 2, 3] bcast_S2x8x512x1_S2x8x512x512_0_1_2_3 (broadcastInDim S2x8x512x1 ![0, 1, 2] bcast_S2x8x512_S2x8x512x1_0_1_2 M)

/-- the weights, -/
def shifted (S : FVec Ideal S2x8x512x512 .f32) (M : FVec Ideal S2x8x512 .f32) : FVec Ideal S2x8x512x512 .f32 :=
  Host.exp (subf S (spread M))

/-- and the values mixed by them. -/
def mix (P : FVec Ideal S2x8x512x512 .f32) (V : FVec Ideal S2x512x8x64 .bf16) : FVec Ideal S2x512x8x64 .f32 :=
  transpose S2x512x8x64 [0, 3, 1, 2] (Host.dotGeneral dot_S2x512x8x64_S2x8x512x512_S2x8x64x512_1_3_3_2_02_01 none (extf .f32 V bitsLt_bf16_f32)
    (Host.divf P (spread (Host.reduceAdd P (constant S_ .f32 0x00000000#32) reducesTo_S2x8x512x512_S2x8x512_d3 h_S_)))) transposes_S2x8x64x512_S2x512x8x64_0_3_1_2

/-- The reference's result. -/
def result (Q K V : FVec Ideal S2x512x8x64 .bf16) : FVec Ideal S2x512x8x64 .f32 := mix (shifted (scores Q K) (largest (scores Q K))) V

section At
variable (b : Fin 2) (h : Fin 8) (i : Fin 512)

theorem scores_apply (q k : S2x512x8x64.Idx → ℝ) (Q K : FVec Ideal S2x512x8x64 .bf16) (hQ : ∀ i, Q i = (q i : EReal)) (hK : ∀ i, K i = (k i : EReal))
    (j : Fin 512) : scores Q K (ix4 b h i j) = (score (fun e => q (ix4 b i h e)) (fun e => k (ix4 b j h e)) : EReal) := by
  unfold scores
  pointwise
  simp only [hQ, hK, eighth_f32, score_after]

/-- The largest of real numbers is one of them. -/
theorem largest_real (S : FVec Ideal S2x8x512x512 .f32) (s : Fin 512 → ℝ) (hS : ∀ j, S (ix4 b h i j) = (s j : EReal)) :
    ∃ r : ℝ, largest S (ix3 b h i) = (r : EReal) := by
  unfold largest
  pointwise
  simp only [hS]
  rw [show Ideal.ofBits .f32 4286578688#32 = ⊥ by simp [Ideal.ofBits, Ideal.ieee]]
  obtain ⟨j, -, hj⟩ := Finset.exists_mem_eq_sup' (Finset.univ_nonempty (α := Fin 512)) (fun j => (s j : EReal))
  exact ⟨s j, by rw [← hj, Finset.sup'_eq_sup]; rfl⟩

theorem shifted_apply (S : FVec Ideal S2x8x512x512 .f32) (M : FVec Ideal S2x8x512 .f32) (j : Fin 512) :
    shifted S M (ix4 b h i j) = Ideal.exp (S (ix4 b h i j) - M (ix3 b h i)) := by
  unfold shifted spread; pointwise

theorem mix_apply (P : FVec Ideal S2x8x512x512 .f32) (V : FVec Ideal S2x512x8x64 .bf16) (d : Fin 64) :
    mix P V (ix4 b i h d) = ∑ j, V (ix4 b j h d) * Ideal.div (P (ix4 b h i j)) (∑ j, P (ix4 b h i j)) := by
  unfold mix spread; pointwise

/-- The reference's result at an index, its queries and keys real, the values any extended reals. -/
theorem result_apply (q k : S2x512x8x64.Idx → ℝ) (Q K V : FVec Ideal S2x512x8x64 .bf16) (hQ : ∀ i, Q i = (q i : EReal)) (hK : ∀ i, K i = (k i : EReal))
    (d : Fin 64) : result Q K V (ix4 b i h d) = Ideal.div
      (∑ j, Ideal.exp (score (fun e => q (ix4 b i h e)) (fun e => k (ix4 b j h e)) : EReal) * V (ix4 b j h d))
      (∑ j, Ideal.exp (score (fun e => q (ix4 b i h e)) (fun e => k (ix4 b j h e)) : EReal)) := by
  obtain ⟨r, hr⟩ := largest_real b h i (scores Q K) _ (scores_apply b h i q k Q K hQ hK)
  unfold result
  rw [mix_apply]
  simp only [shifted_apply, hr, scores_apply b h i q k Q K hQ hK]
  exact softmax_eq _ r _

end At

end Cert.ReferenceIdeal.Attn

end
-- ==== Proof.Value.lean ====
/-
# Two-device attention — the value

Each device ends holding its rows of the reference's result. The 512 keys of the reference are a device's own 256 and
its peer's 256, in an order that depends on the device; the sums do not.
-/
module

public import proofs.«01_k».proof.Proof.Frames
public import proofs.«01_k».proof.Proof.Reference
public import Idealize.ShloMosaic.Lib.LayoutAt
public import Idealize.ShloMosaic.Lib.ReduceAll

@[expose] public section

noncomputable section

namespace Cert.KernelIdeal.Attn

open Cert.KernelIdeal Cert.KernelIdeal.Gen
open Idealize.ShloMosaic Idealize.ShloMosaic.TcCoe Idealize.SL.Sem

section Arrays
variable {F : FTy → Type} [FloatOps F]
variable (m : (ℓ : Loc nD τ sig) → Buf (Elt F) ℓ) (ρ : Dev nD → PrngReg) (c : Dev nD)

/-! ## The arrays

Each window is one block, the whole array. -/

theorem qBlk_eq : qBlk m c = m ((c : Thread nD τ).loc main_arg0) := Memref.read_access_unit_zero _ _ (funext fun a => by fin_cases a <;> rfl) _ _
theorem kBlk_eq : kBlk m c = m ((c : Thread nD τ).loc main_arg1) := Memref.read_access_unit_zero _ _ (funext fun a => by fin_cases a <;> rfl) _ _
theorem vBlk_eq : vBlk m c = m ((c : Thread nD τ).loc main_arg2) := Memref.read_access_unit_zero _ _ (funext fun a => by fin_cases a <;> rfl) _ _

/-- The output array holds what the device computed. -/
theorem final_out : finalA m ρ c (3 : Fin 4) = outAt m c := by
  have hr : (win0_3.blk t0_0).view.read (Elt F) (finalA m ρ c (3 : Fin 4)) = outAt m c := by
    unfold finalA
    rw [show cfg0.N = (t0_0 : Fin cfg0.N).val + 1 from rfl, (dats m ρ 0 c).arrAt_succ (3 : Fin 4) t0_0]
    rw [show (cfg0.win (3 : Fin 4)).flush t0_0 = true from flush0_3 t0_0, if_pos rfl]
    exact View.read_write_univ _ _
  rw [← hr]
  exact (Memref.read_access_unit_zero _ main_v1 (funext fun a => by fin_cases a <;> rfl) _ _).symm

end Arrays

/-! ## The precondition -/

instance pre_facts : Cert.Pre_finite_qk_KernelIdeal.Facts where
  bcast_S_S2x256x8x64 := by decide
  reducesTo_S2x256x8x64_S_d0_1_2_3 := by decide
  h_S_ := by decide

instance pre_facts_reference : Cert.Pre_finite_qk_ReferenceIdeal.Facts where
  bcast_S_S2x512x8x64 := by decide
  reducesTo_S2x512x8x64_S_d0_1_2_3 := by decide
  h_S_ := by decide

/-- An extended real whose absolute value is below infinity is real. -/
theorem real_of_abs_lt {x : EReal} (h : BitVec.ofBool (decide (max x (-x) < Ideal.ofBits .bf16 0x7F80#16)) = 1#1) : ∃ r : ℝ, x = (r : EReal) := by
  rw [show Ideal.ofBits .bf16 0x7F80#16 = ⊤ by simp [Ideal.ofBits, Ideal.ieee]] at h
  induction x using EReal.rec with
  | bot => simp at h
  | top => simp at h
  | coe r => exact ⟨r, rfl⟩

/-- The precondition of one device's blocks: its queries and keys are real. -/
theorem real_of_pre {Q K V : FVec Ideal S2x256x8x64 .bf16} (h : Cert.Pre_finite_qk_KernelIdeal.fn (F := Ideal) Q K V = fun _ => 1#1) (i : S2x256x8x64.Idx) :
    (∃ r : ℝ, Q i = (r : EReal)) ∧ ∃ r : ℝ, K i = (r : EReal) := by
  have h := congrFun h ix0
  unfold Cert.Pre_finite_qk_KernelIdeal.fn at h
  obtain ⟨hq, hk⟩ := IntOp.andi_eq_one.mp h
  haveI : Subsingleton Cert.Pre_finite_qk_KernelIdeal.S_.Idx := ⟨fun a b => funext fun x => x.elim0⟩
  exact ⟨real_of_abs_lt (Host.reduce_andi_all _ _ _ _ _ hq i), real_of_abs_lt (Host.reduce_andi_all _ _ _ _ _ hk i)⟩

/-! ## The rows of a device -/

/-- A device's row `j` in the whole array. -/
def row (c : Dev nD) (j : Fin 256) : Fin 512 := ⟨c.val / 16 * 256 + j.val, by have := c.isLt; have := j.isLt; unfold nD at *; omega⟩

/-- Where index `i` of a device's block lies in the whole array. -/
def place (c : Dev nD) (i : S2x256x8x64.Idx) : Cert.ReferenceIdeal.S2x512x8x64.Idx := ix4 (i 0) (row c (i 1)) (i 2) (i 3)

/-- A device's block at an index. -/
theorem block_apply {α : Type} (X : Cert.ReferenceIdeal.S2x512x8x64.Idx → α) (c : Dev nD) (t : Layout.TilesN S2x256x8x64 Cert.ReferenceIdeal.S2x512x8x64 _)
    (i : S2x256x8x64.Idx) :
    Layout.blockN S2x256x8x64 Cert.ReferenceIdeal.S2x512x8x64 (Layout.meshBlock [2, 4, 4] ![[], [0], [], []] c) X t i = X (place c i) := by
  have hc : c.val / 16 % 2 = c.val / 16 := Nat.mod_eq_of_lt (by have := c.isLt; unfold nD at this; omega)
  have e : Layout.meshLin [2, 4, 4] c.val [0] = c.val / 16 := by simp [Layout.meshLin, Layout.meshCoord, Layout.cutSize, hc]
  refine congrArg X (funext fun a => Fin.ext ?_)
  fin_cases a
  · show Layout.meshLin [2, 4, 4] c.val [] * 2 + (i 0).val = (i 0).val; simp [Layout.meshLin]
  · show Layout.meshLin [2, 4, 4] c.val [0] * 256 + (i 1).val = c.val / 16 * 256 + (i 1).val; rw [e]
  · show Layout.meshLin [2, 4, 4] c.val [] * 8 + (i 2).val = (i 2).val; simp [Layout.meshLin]
  · show Layout.meshLin [2, 4, 4] c.val [] * 64 + (i 3).val = (i 3).val; simp [Layout.meshLin]

/-- Every index is some device's. -/
theorem place_surj (r : Cert.ReferenceIdeal.S2x512x8x64.Idx) : ∃ c i, place c i = r := by
  have h : (r 1).val < 512 := (r 1).isLt
  refine ⟨⟨(r 1).val / 256 * 16, by unfold nD; omega⟩, ix4 (r 0) (⟨(r 1).val % 256, Nat.mod_lt _ (by decide)⟩ : Fin 256) (r 2) (r 3), funext fun a => Fin.ext ?_⟩
  fin_cases a
  · rfl
  · show (r 1).val / 256 * 16 / 16 * 256 + (r 1).val % 256 = (r 1).val; omega
  · rfl
  · rfl

/-- A sum over all rows is the sum over a device's and over its peer's. -/
theorem sum_rows (c : Dev nD) (f : Fin 512 → EReal) : ∑ r, f r = ∑ j, f (row c j) + ∑ j, f (row (peer c) j) := by
  have h : ∑ r, f r = ∑ j : Fin 256, f (Fin.castAdd 256 j) + ∑ j : Fin 256, f (Fin.natAdd 256 j) := Fin.sum_univ_add (a := 256) (b := 256) f
  have hc := c.isLt
  have hp : (peer c).val = (c.val + 16) % 32 := rfl
  unfold nD at hc
  rw [h]
  rcases Nat.lt_or_ge c.val 16 with hlt | hge
  · congr 1 <;> refine Finset.sum_congr rfl fun j _ => congrArg f (Fin.ext ?_)
    · show j.val = c.val / 16 * 256 + j.val; omega
    · show 256 + j.val = (peer c).val / 16 * 256 + j.val; omega
  · rw [add_comm]
    congr 1 <;> refine Finset.sum_congr rfl fun j _ => congrArg f (Fin.ext ?_)
    · show 256 + j.val = c.val / 16 * 256 + j.val; omega
    · show j.val = (peer c).val / 16 * 256 + j.val; omega

/-! ## The value -/

open Cert.ReferenceIdeal.Attn (result result_apply)

/-- An array of which every device's block is real is real. -/
theorem real_of_blocks (X : Cert.ReferenceIdeal.S2x512x8x64.Idx → EReal) (B : Dev nD → S2x256x8x64.Idx → EReal)
    (hB : ∀ c i, B c i = X (place c i)) (hr : ∀ c i, ∃ r : ℝ, B c i = (r : EReal)) :
    ∃ x : Cert.ReferenceIdeal.S2x512x8x64.Idx → ℝ, ∀ i, X i = (x i : EReal) := by
  have hX : ∀ i, ∃ r : ℝ, X i = (r : EReal) := fun i => by
    obtain ⟨c, j, rfl⟩ := place_surj i
    rw [← hB]; exact hr c j
  choose x hx using hX
  exact ⟨x, hx⟩

/-- Each device's output is its block of the reference's result. -/
theorem out_eq (Q K V : FVec Ideal Cert.ReferenceIdeal.S2x512x8x64 .bf16) (q k : Cert.ReferenceIdeal.S2x512x8x64.Idx → ℝ)
    (hQ : ∀ i, Q i = (q i : EReal)) (hK : ∀ i, K i = (k i : EReal)) (Qb Kb Vb : Dev nD → Vec Ideal S2x256x8x64 .bf16)
    (hQb : ∀ c i, Qb c i = Q (place c i)) (hKb : ∀ c i, Kb c i = K (place c i)) (hVb : ∀ c i, Vb c i = V (place c i))
    (c : Dev nD) (b : Fin 2) (i : Fin 256) (h : Fin 8) (d : Fin 64) :
    outVal (Qb c) (up (Kb c)) (up (Vb c)) (up (Kb (peer c))) (up (Vb (peer c))) (ix4 b i h d) = result Q K V (ix4 b (row c i) h d) := by
  rw [outVal_apply (fun i => q (place c i)) (fun i => k (place c i)) (fun i => k (place (peer c) i)) _ _ _ _ _
      (fun i => (hQb c i).trans (hQ _)) (fun i => (hKb c i).trans (hK _)) (fun i => (hKb (peer c) i).trans (hK _)),
    result_apply b h (row c i) q k Q K V hQ hK, sum_rows c, sum_rows c]
  simp only [hVb]
  rfl

/-- The same of arrays cut into the devices' blocks, each device's queries and keys finite. -/
theorem out_block (Q K V : FVec Ideal Cert.ReferenceIdeal.S2x512x8x64 .bf16) (Qb Kb Vb : Dev nD → Vec Ideal S2x256x8x64 .bf16)
    (t : Layout.TilesN S2x256x8x64 Cert.ReferenceIdeal.S2x512x8x64 _)
    (hQ : ∀ c, Qb c = Layout.blockN S2x256x8x64 Cert.ReferenceIdeal.S2x512x8x64 (Layout.meshBlock [2, 4, 4] ![[], [0], [], []] c) Q t)
    (hK : ∀ c, Kb c = Layout.blockN S2x256x8x64 Cert.ReferenceIdeal.S2x512x8x64 (Layout.meshBlock [2, 4, 4] ![[], [0], [], []] c) K t)
    (hV : ∀ c, Vb c = Layout.blockN S2x256x8x64 Cert.ReferenceIdeal.S2x512x8x64 (Layout.meshBlock [2, 4, 4] ![[], [0], [], []] c) V t)
    (hpre : ∀ c, Cert.Pre_finite_qk_KernelIdeal.fn (F := Ideal) (Qb c) (Kb c) (Vb c) = fun _ => 1#1) (c : Dev nD) :
    outVal (Qb c) (up (Kb c)) (up (Vb c)) (up (Kb (peer c))) (up (Vb (peer c)))
      = Layout.blockN S2x256x8x64 Cert.ReferenceIdeal.S2x512x8x64 (Layout.meshBlock [2, 4, 4] ![[], [0], [], []] c) (result Q K V) t := by
  have hQb : ∀ c i, Qb c i = Q (place c i) := fun c i => (congrFun (hQ c) i).trans (block_apply _ _ _ _)
  have hKb : ∀ c i, Kb c i = K (place c i) := fun c i => (congrFun (hK c) i).trans (block_apply _ _ _ _)
  have hVb : ∀ c i, Vb c i = V (place c i) := fun c i => (congrFun (hV c) i).trans (block_apply _ _ _ _)
  obtain ⟨q, hq⟩ := real_of_blocks Q Qb hQb fun c i => (real_of_pre (hpre c) i).1
  obtain ⟨k, hk⟩ := real_of_blocks K Kb hKb fun c i => (real_of_pre (hpre c) i).2
  refine funext fun i => Eq.trans ?_ (block_apply _ c t i).symm
  exact (congrArg _ (eq_ix4 i)).trans (out_eq Q K V q k hq hk Qb Kb Vb hQb hKb hVb c (i 0) (i 1) (i 2) (i 3))

/-- On every memory of which the precondition holds, each device ends with its block of the reference's result. -/
theorem value : Cert.algebraic_KernelIdeal_ReferenceIdeal_pre_finite_qk_KernelIdeal := by
  intro m ρ m' ρ' hpre hin
  refine ⟨result _ _ _, ?_, (θ_run Cert.ReferenceIdeal.defs _ _).mono (fun r h => h 0) (Cert.ReferenceIdeal.Value.run (F := Ideal) m' ρ')⟩
  refine (θ_run defs _ _).mono (fun r h c => ⟨?_, (h.1 c (0 : Fin 4)).trans (final_arg m ρ c (0 : Fin 4) rfl),
    (h.1 c (1 : Fin 4)).trans (final_arg m ρ c (1 : Fin 4) rfl), (h.1 c (2 : Fin 4)).trans (final_arg m ρ c (2 : Fin 4) rfl)⟩) (run_main m ρ)
  refine (h.1 c (3 : Fin 4)).trans ((final_out m ρ c).trans ?_)
  unfold outAt
  rw [qBlk_eq, kBlk_eq, kBlk_eq, vBlk_eq, vBlk_eq]
  exact out_block _ _ _ (fun c => m ((c : Thread nD τ).loc main_arg0)) (fun c => m ((c : Thread nD τ).loc main_arg1))
    (fun c => m ((c : Thread nD τ).loc main_arg2)) _ (fun c => (hin c).1) (fun c => (hin c).2.1) (fun c => (hin c).2.2) hpre c

end Cert.KernelIdeal.Attn

end
-- ==== Proof.lean ====
/-
# Two-device attention — the claims
-/
module

public import proofs.«01_k».proof.Defs
public import proofs.«01_k».proof.Proof.Frames
public import proofs.«01_k».proof.Proof.Value
public import Idealize.ShloMosaic.Adequacy
public import Idealize.ShloMosaic.Init

@[expose] public section

noncomputable section

namespace Cert.Proof

open Cert.KernelIdeal.Attn

theorem claim : Cert.Claim := ⟨Cert.Kernel.Gen.facts, Cert.KernelIdeal.Gen.facts, Cert.ReferenceIdeal.Gen.facts,
  pre_facts, pre_facts_reference, frame_kernel, frame_ideal, fun m ρ _ => frame_ideal m ρ trivial,
  frame_reference, fun m ρ _ => frame_reference m ρ trivial, trivial, value⟩

end Cert.Proof

end
